-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S1024x512 : Shape := ⟨2, ![1024, 512]⟩
abbrev S1024x104 : Shape := ⟨2, ![1024, 104]⟩
abbrev S112x512 : Shape := ⟨2, ![112, 512]⟩
abbrev S8x112x512 : Shape := ⟨3, ![8, 112, 512]⟩
abbrev S8 : Shape := ⟨1, ![8]⟩
abbrev S_ : Shape := ⟨0, ![]⟩
abbrev S1024x32 : Shape := ⟨2, ![1024, 32]⟩
abbrev S128x128 : Shape := ⟨2, ![128, 128]⟩
abbrev S1x26 : Shape := ⟨2, ![1, 26]⟩
abbrev S1x32 : Shape := ⟨2, ![1, 32]⟩
abbrev S128x32 : Shape := ⟨2, ![128, 32]⟩
abbrev S128 : Shape := ⟨1, ![128]⟩
abbrev S128x1 : Shape := ⟨2, ![128, 1]⟩
abbrev S128x26 : Shape := ⟨2, ![128, 26]⟩
abbrev S32 : Shape := ⟨1, ![32]⟩
abbrev S104x256 : Shape := ⟨2, ![104, 256]⟩
abbrev S26x256 : Shape := ⟨2, ![26, 256]⟩
abbrev S1x256x512 : Shape := ⟨3, ![1, 256, 512]⟩
abbrev S256x512 : Shape := ⟨2, ![256, 512]⟩
abbrev S26x512 : Shape := ⟨2, ![26, 512]⟩
abbrev S104 : Shape := ⟨1, ![104]⟩
abbrev S1x104 : Shape := ⟨2, ![1, 104]⟩
abbrev S1x408 : Shape := ⟨2, ![1, 408]⟩
abbrev S1x512 : Shape := ⟨2, ![1, 512]⟩
abbrev S6x512 : Shape := ⟨2, ![6, 512]⟩
abbrev S1 : Shape := ⟨1, ![1]⟩
abbrev S1x112x512 : Shape := ⟨3, ![1, 112, 512]⟩
abbrev S104x512 : Shape := ⟨2, ![104, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x1, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S1024x1, .i32⟩
  | .local _ .vmem, ⟨2, _⟩ => ⟨S4x256x512, .bf16⟩
  | .local _ .vmem, ⟨3, _⟩ => ⟨S1024x512, .f32⟩
  | .local _ .vmem, ⟨4, _⟩ => ⟨S1024x104, .bf16⟩
  | .local _ .vmem, ⟨5, _⟩ => ⟨S112x512, .bf16⟩
  | .local _ .vmem, ⟨6, _⟩ => ⟨S8x112x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_244 : BitVec 32 := 1#32
  let v810 : BitVec 32 := Scalar.addi v2 c1_i32_244
  let c8_i32_245 : BitVec 32 := 8#32
  let v811 : BitVec 32 := Scalar.remsi v810 c8_i32_245
  let c1_i32_249 : BitVec 32 := 1#32
  let v812 : BitVec 32 := Scalar.muli v811 c1_i32_249
  let v813 : BitVec 32 := Scalar.addi c0_i32_250 v812
  v813.toNat
def k0_dev9 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_253 : BitVec 32 := 2#32
  let v820 : BitVec 32 := Scalar.addi v2 c2_i32_253
  let c8_i32_254 : BitVec 32 := 8#32
  let v821 : BitVec 32 := Scalar.remsi v820 c8_i32_254
  let c1_i32_258 : BitVec 32 := 1#32
  let v822 : BitVec 32 := Scalar.muli v821 c1_i32_258
  let v823 : BitVec 32 := Scalar.addi c0_i32_259 v822
  v823.toNat
def k0_dev10 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_262 : BitVec 32 := 3#32
  let v830 : BitVec 32 := Scalar.addi v2 c3_i32_262
  let c8_i32_263 : BitVec 32 := 8#32
  let v831 : BitVec 32 := Scalar.remsi v830 c8_i32_263
  let c1_i32_267 : BitVec 32 := 1#32
  let v832 : BitVec 32 := Scalar.muli v831 c1_i32_267
  let v833 : BitVec 32 := Scalar.addi c0_i32_268 v832
  v833.toNat
def k0_dev11 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_271 : BitVec 32 := 4#32
  let v840 : BitVec 32 := Scalar.addi v2 c4_i32_271
  let c8_i32_272 : BitVec 32 := 8#32
  let v841 : BitVec 32 := Scalar.remsi v840 c8_i32_272
  let c1_i32_276 : BitVec 32 := 1#32
  let v842 : BitVec 32 := Scalar.muli v841 c1_i32_276
  let v843 : BitVec 32 := Scalar.addi c0_i32_277 v842
  v843.toNat
def k0_dev12 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_280 : BitVec 32 := 5#32
  let v850 : BitVec 32 := Scalar.addi v2 c5_i32_280
  let c8_i32_281 : BitVec 32 := 8#32
  let v851 : BitVec 32 := Scalar.remsi v850 c8_i32_281
  let c1_i32_285 : BitVec 32 := 1#32
  let v852 : BitVec 32 := Scalar.muli v851 c1_i32_285
  let v853 : BitVec 32 := Scalar.addi c0_i32_286 v852
  v853.toNat
def k0_dev13 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_289 : BitVec 32 := 6#32
  let v860 : BitVec 32 := Scalar.addi v2 c6_i32_289
  let c8_i32_290 : BitVec 32 := 8#32
  let v861 : BitVec 32 := Scalar.remsi v860 c8_i32_290
  let c1_i32_294 : BitVec 32 := 1#32
  let v862 : BitVec 32 := Scalar.muli v861 c1_i32_294
  let v863 : BitVec 32 := Scalar.addi c0_i32_295 v862
  v863.toNat
def k0_dev14 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_298 : BitVec 32 := 7#32
  let v870 : BitVec 32 := Scalar.addi v2 c7_i32_298
  let c8_i32_299 : BitVec 32 := 8#32
  let v871 : BitVec 32 := Scalar.remsi v870 c8_i32_299
  let c1_i32_303 : BitVec 32 := 1#32
  let v872 : BitVec 32 := Scalar.muli v871 c1_i32_303
  let v873 : BitVec 32 := Scalar.addi c0_i32_304 v872
  v873.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S1024x32 : Shape := ⟨2, ![1024, 32]⟩
abbrev S_ : Shape := ⟨0, ![]⟩
abbrev S32x512x1024 : Shape := ⟨3, ![32, 512, 1024]⟩
abbrev S32x1024x512 : Shape := ⟨3, ![32, 1024, 512]⟩
abbrev S32x1024 : Shape := ⟨2, ![32, 1024]⟩
abbrev S32x1024x1 : Shape := ⟨3, ![32, 1024, 1]⟩
abbrev S1024x512 : Shape := ⟨2, ![1024, 512]⟩

abbrev nBuf : Space → Nat
  | .hbm => 32
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x1, .i32⟩
  | .hbm, ⟨3, _⟩ => ⟨S32x256x512, .bf16⟩
  | .hbm, ⟨4, _⟩ => ⟨S1024x256, .f32⟩
  | .hbm, ⟨5, _⟩ => ⟨S32x256x512, .f32⟩
  | .hbm, ⟨6, _⟩ => ⟨S1024x32, .i32⟩
  | .hbm, ⟨7, _⟩ => ⟨S1024x32, .i32⟩
  | .hbm, ⟨8, _⟩ => ⟨S1024x32, .i1⟩
  | .hbm, ⟨9, _⟩ => ⟨S1024x32, .i32⟩
  | .hbm, ⟨10, _⟩ => ⟨S_, .i32⟩
  | .hbm, ⟨11, _⟩ => ⟨S_, .i32⟩
  | .hbm, ⟨12, _⟩ => ⟨S1024x32, .i32⟩
  | .hbm, ⟨13, _⟩ => ⟨S1024x32, .i32⟩
  | .hbm, ⟨14, _⟩ => ⟨S_, .i32⟩
  | .hbm, ⟨15, _⟩ => ⟨S1024x32, .i32⟩
  | .hbm, ⟨16, _⟩ => ⟨S1024x32, .i1⟩
  | .hbm, ⟨17, _⟩ => ⟨S_, .i32⟩
  | .hbm, ⟨18, _⟩ => ⟨S1024x32, .i32⟩
  | .hbm, ⟨19, _⟩ => ⟨S1024x32, .i1⟩
  | .hbm, ⟨20, _⟩ => ⟨S1024x32, .i1⟩
  | .hbm, ⟨21, _⟩ => ⟨S32x512x1024, .f32⟩
  | .hbm, ⟨22, _⟩ => ⟨S32x1024x512, .f32⟩
  | .hbm, ⟨23, _⟩ => ⟨S32x1024, .i1⟩
  | .hbm, ⟨24, _⟩ => ⟨S32x1024x1, .i1⟩
  | .hbm, ⟨25, _⟩ => ⟨S_, .f32⟩
  | .hbm, ⟨26, _⟩ => ⟨S_, .f32⟩
  | .hbm, ⟨27, _⟩ => ⟨S32x1024x512, .i1⟩
  | .hbm, ⟨28, _⟩ => ⟨S32x1024x512, .f32⟩
  | .hbm, ⟨29, _⟩ => ⟨S32x1024x512, .f32⟩
  | .hbm, ⟨30, _⟩ => ⟨S_, .f32⟩
  | .hbm, ⟨31, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Proof.Values.lean ====
/-
# What one device computes, as functions of the two arrays it reads

The kernel computes, block of 128 tokens by block of 128 tokens, the rank of each token among the tokens
that chose the same expert, and from it a 0/1 table `gt` of 1024 tokens by 104 slots. The slots' rows go out
to the other devices in one message of 112 rows. This module names these values for a block or slot given
by its number, where the printed program spells each of them out.
-/
module

public import proofs.«01_k».proof.Proof.Gen.KernelIdeal.Skeleton
public import Idealize.ShloMosaic.Lib.ValueIdxCore

@[expose] public section

set_option maxRecDepth 16384

noncomputable section

namespace Cert.MoE

open Cert.KernelIdeal Cert.KernelIdeal.Gen
open Idealize.ShloMosaic Idealize.SL.Sem Idealize.ShloMosaic.ValueIdx

variable {F : FTy → Type} [FloatOps F]

/-! ## The blocks of 128 tokens -/

/-- Block `n` of 128 rows lies inside a 1024 × 32 array. -/
theorem slices32 (n : ℕ) (h : n < 8) : S1024x32.Slices ![128 * n, 0] S128x32 := by
  interval_cases n <;> decide

/-- Block `n` of 128 rows lies inside a 1024 × 1 array. -/
theorem slices1 (n : ℕ) (h : n < 8) : S1024x1.Slices ![128 * n, 0] S128x1 := by
  interval_cases n <;> decide

/-- The rows of the 0/1 choice table that belong to block `n`. -/
def ohBlk (r : Vec F S1024x1 .i32) (n : ℕ) (h : n < 8) : FVec F S128x32 .bf16 :=
  extractStridedSlice S128x32 ![128 * n, 0] (k0_pay3 r) (slices32 n h)

/-- How many tokens before block `n` chose each expert. -/
def pfx (r : Vec F S1024x1 .i32) : (n : ℕ) → n < 8 → FVec F S1x32 .f32
  | 0, _ => k0_pay6
  | n + 1, h => k0_pay17 (pfx r n (Nat.lt_of_succ_lt h)) (ohBlk r n (Nat.lt_of_succ_lt h))

/-- The inclusive count, at each row of block `n`, of the tokens that chose each expert. -/
def cnt (r : Vec F S1024x1 .i32) (n : ℕ) (h : n < 8) : FVec F S128x32 .f32 :=
  addf (matmul dot_S128x128_S128x32_S128x32_1_0_0_1_n_n none (k0_pay4 (F := F)) (ohBlk r n h) (constant S128x32 .f32 0x00000000#32))
    (broadcastTo S128x32 (pfx r n h) broadcasts_S1x32_S128x32)

/-- The rank of each token of block `n` within its expert (0 where it chose none). -/
def rnk (r : Vec F S1024x1 .i32) (n : ℕ) (h : n < 8) : FVec F S128x1 .f32 :=
  shapeCast S128x1
    (multiReduction .add [1] S128
      (select (extractStridedSlice S128x32 ![128 * n, 0] (k0_pay2 r) (slices32 n h)) (cnt r n h)
        (broadcast S128x32 (Scalar.ofBits .f32 0x00000000#32 : F .f32)))
      0x00000000#32 reduces_S128x32_S128 (.inl rfl) rfl)
    shapeCasts_S128_S128x1

/-- Whether each token of block `n` is among the first 25 of its expert. -/
def low (r : Vec F S1024x1 .i32) (n : ℕ) (h : n < 8) : IVec S128x1 1 :=
  cmpf .ole (rnk r n h) (broadcast S128x1 (Scalar.ofBits .f32 0x41C80000#32 : F .f32))

/-- The expert each token of block `n` chose. -/
def rid (r : Vec F S1024x1 .i32) (n : ℕ) (h : n < 8) : IVec S128x1 32 :=
  extractStridedSlice S128x1 ![128 * n, 0] (k0_pay1 r) (slices1 n h)

/-- Whether each token of block `n` is kept by this device's `k`-th expert; `v` is the device's number. -/
def sel (v : BitVec 32) (r : Vec F S1024x1 .i32) (n : ℕ) (h : n < 8) (k : ℕ) : IVec S128x1 1 :=
  andi (low r n h) (cmpi .eq (rid r n h) (broadcast S128x1 (Scalar.addi (Scalar.muli v 4#32) (BitVec.ofNat 32 k))))

/-- Block `n`, expert `k` of the table `gt`: a one where a kept token's rank is the slot's number. -/
def gtBlk (v : BitVec 32) (r : Vec F S1024x1 .i32) (n : ℕ) (h : n < 8) (k : ℕ) : FVec F S128x26 .bf16 :=
  k0_pay12 (k0_pay5 (F := F)) (rnk r n h) (sel v r n h k)

/-- The table `gt`: token by slot, put together from its 32 blocks. -/
def gt (v : BitVec 32) (r : Vec F S1024x1 .i32) : Vec F S1024x104 .bf16 := fun i =>
  gtBlk v r ((i 0).val / 128) (Nat.div_lt_of_lt_mul (i 0).isLt) ((i 1).val / 26)
    (ix2 ⟨(i 0).val % 128, Nat.mod_lt _ (by decide)⟩ ⟨(i 1).val % 26, Nat.mod_lt _ (by decide)⟩)

/-! ## The message -/

/-- The expert `k` of the device's four, as the kernel loads it. -/
def wAt (w : Vec F S4x256x512 .bf16) (k : Fin 4) : Vec F S1x256x512 .bf16 :=
  fun j => w (ix3 k (j 1) (j 2))

/-- The rows of the first expert's slots … -/
def ck0 (g : Vec F S1024x104 .bf16) (x : Vec F S1024x256 .bf16) (w : Vec F S4x256x512 .bf16) : FVec F S26x512 .bf16 :=
  k0_pay97 g x (wAt w 0)
/-- … of the second's … -/
def ck1 (g : Vec F S1024x104 .bf16) (x : Vec F S1024x256 .bf16) (w : Vec F S4x256x512 .bf16) : FVec F S26x512 .bf16 :=
  k0_pay98 g x (wAt w 1)
/-- … of the third's … -/
def ck2 (g : Vec F S1024x104 .bf16) (x : Vec F S1024x256 .bf16) (w : Vec F S4x256x512 .bf16) : FVec F S26x512 .bf16 :=
  k0_pay99 g x (wAt w 2)
/-- … and of the fourth's. -/
def ck3 (g : Vec F S1024x104 .bf16) (x : Vec F S1024x256 .bf16) (w : Vec F S4x256x512 .bf16) : FVec F S26x512 .bf16 :=
  k0_pay101 (k0_pay100 g x) (wAt w 3)

/-- The message a device sends to every other one. -/
def msg (v : BitVec 32) (x : Vec F S1024x256 .bf16) (r : Vec F S1024x1 .i32) (w : Vec F S4x256x512 .bf16) : FVec F S112x512 .bf16 :=
  k0_pay103 (gt v r) (ck0 (gt v r) x w) (ck1 (gt v r) x w) (ck2 (gt v r) x w) (k0_pay100 (gt v r) x) (wAt w 3)

/-! ## The result -/

/-- A message as a load of its slot of the landing buffer gives it. -/
def slab (f : FVec F S112x512 .bf16) : Vec F S1x112x512 .bf16 := fun j => f (ix2 (j 1) (j 2))

/-- A device's result from its own slots and the seven messages, `M s` the message in slot `s`. -/
def out (g : Vec F S1024x104 .bf16) (x : Vec F S1024x256 .bf16) (w : Vec F S4x256x512 .bf16) (M : ℕ → Vec F S1x112x512 .bf16) :
    FVec F S1024x512 .f32 :=
  let t := k0_pay104 (F := F)
  let a7 := k0_pay105 (ck0 g x w) (ck1 g x w) (ck2 g x w) (ck3 g x w) (k0_pay102 g) (M 7)
  let a6 := k0_pay106 t a7 (M 6)
  let a5 := k0_pay107 t a6 (M 5)
  let a3 := k0_pay111 t a5 (k0_pay109 (M 4)) (k0_pay110 t (M 4)) (M 3)
  let a2 := k0_pay112 t a3 (M 2)
  k0_pay116 t a2 (k0_pay114 (M 1)) (k0_pay115 (M 1))

end Cert.MoE

end
-- ==== Proof.Protocol.lean ====
/-
# The exchange: the cells, what they hand over, and what each device owes

Every device has a barrier cell, eight send cells and eight receive cells; index 0 of the last two is never
used. Device `c + d` is the one `d` places after `c` around the eight. A device signals the barrier of each of
the other seven, and with the signal it lends the signalled device the slot that device will write. It waits for
seven such signals, sends its message into the seven slots it was lent, and waits for the seven messages of the
others.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the exchange's, whose duties are numbered 0 to 7 -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The devices around the ring -/

/-- The device `d` places after `c`. -/
def peer (c : Dev nD) (d : Fin 8) : Dev nD := (c + d : Fin 8)

theorem peer_val (c : Dev nD) (d : Fin 8) : (peer c d).val = (c.val + d.val) % 8 := rfl
theorem peer_neg (c : Dev nD) (d : Fin 8) : peer (peer c d) (-d) = c := by revert c d; decide
theorem neg_peer (c : Dev nD) (d : Fin 8) : peer (peer c (-d)) d = c := by revert c d; decide
theorem peer_eq_iff (a c : Dev nD) (d : Fin 8) : peer a d = c ↔ a = peer c (-d) := by revert a c d; decide

theorem neg_neg_eq (d : Fin 8) : - -d = d := by revert d; decide

/-- Going `d` places on from every device, and numbering the way back. -/
def turn : Dev nD × Fin 8 ≃ Dev nD × Fin 8 where
  toFun cd := (peer cd.1 cd.2, -cd.2)
  invFun cd := (peer cd.1 cd.2, -cd.2)
  left_inv cd := Prod.ext (peer_neg _ _) (neg_neg_eq _)
  right_inv cd := Prod.ext (peer_neg _ _) (neg_neg_eq _)

/-! ## The buffers and the cells -/

abbrev xM : Memref sig .tc .vmem S1024x256 .bf16 := Memref.whole cc0_stg0_0
abbrev iM : Memref sig .tc .vmem S1024x1 .i32 := Memref.whole cc0_stg1_0
abbrev wM : Memref sig .tc .vmem S4x256x512 .bf16 := Memref.whole cc0_stg2_0
abbrev oM : Memref sig .tc .vmem S1024x512 .f32 := Memref.whole cc0_stg3_0
abbrev gM : Memref sig .tc .vmem S1024x104 .bf16 := Memref.whole cc0_scratch0
abbrev sM : Memref sig .tc .vmem S112x512 .bf16 := Memref.whole cc0_scratch1
abbrev rM : Memref sig .tc .vmem S8x112x512 .bf16 := Memref.whole cc0_scratch2

/-- Slot `s` lies inside the landing buffer. -/
theorem inbSlot (s : Fin 8) : ∀ i, ![s.val, 0, 0] i + S1x112x512.size i ≤ S8x112x512.size i := by revert s; decide
/-- Semaphore `j` lies inside its array. -/
theorem inbSem (j : Fin 8) : ∀ i, ![j.val] i + S1.size i ≤ S8.size i := by revert j; decide

abbrev slotR (s : Fin 8) : Rect S8x112x512 := Rect.unit (s := S8x112x512) ![s.val, 0, 0] S1x112x512.size (inbSlot s)
/-- Slot `s` of the landing buffer, as the copy that fills it writes it. -/
abbrev slotM (s : Fin 8) : Memref sig .tc .vmem S112x512 .bf16 :=
  (rM.slice (slotR s) (fun _ => rfl)).squeeze S112x512 squeezes_S1x112x512_S112x512

abbrev barS : Sem sig := (SemArray.scalar (sig.barrier 0 rfl) : Sems sig S_).sem
abbrev sendS (d : Fin 8) : DmaSem sig :=
  ((cc0_scratch3.slice (Rect.unit (s := S8) ![d.val] S1.size (inbSem d)) : DmaSems sig S1).squeeze S_ squeezes_S1_S_ : DmaSems sig S_).sem
abbrev recvS (s : Fin 8) : DmaSem sig :=
  ((cc0_scratch4.slice (Rect.unit (s := S8) ![s.val] S1.size (inbSem s)) : DmaSems sig S1).squeeze S_ squeezes_S1_S_ : DmaSems sig S_).sem

/-- The kinds of cell a device has: its barrier, its send cells (`inl`) and its receive cells (`inr`). -/
abbrev CK : Type := Option (Fin 8 ⊕ Fin 8)
abbrev csem : CK → SemLoc sig
  | none => .reg barS
  | some (.inl d) => .dma (sendS d)
  | some (.inr s) => .dma (recvS s)
abbrev kcell (ck : Dev nD × CK) : GSem nD τ sig := ((ck.1 : Thread nD τ), csem ck.2)

abbrev barCell (c : Dev nD) : GSem nD τ sig := kcell (c, none)
abbrev sendCell (c : Dev nD) (d : Fin 8) : GSem nD τ sig := kcell (c, some (.inl d))
abbrev recvCell (c : Dev nD) (s : Fin 8) : GSem nD τ sig := kcell (c, some (.inr s))

theorem csem_injective : Function.Injective csem := by decide

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- The bytes of a message, as a copy's semaphores count them. -/
abbrev N : ℕ := (sM : Memref sig .tc .vmem S112x512 .bf16).view.dmaCredit
theorem N_pos : 0 < N := View.dmaCredit_pos _ (by decide)

/-! ## Contents -/

/-- The tokens, as device `c` stages them; -/
def xAt (c : Dev nD) : Vec F S1024x256 .bf16 :=
  (win0_0.blk (0 : Fin 1)).view.read (Elt F) ((s₀ m ρ).mem ((c : Thread nD τ).loc main_arg0))
/-- the experts they chose; -/
def iAt (c : Dev nD) : Vec F S1024x1 .i32 :=
  (win0_1.blk (0 : Fin 1)).view.read (Elt F) ((s₀ m ρ).mem ((c : Thread nD τ).loc main_arg2))
/-- the device's four experts. -/
def wtAt (c : Dev nD) : Vec F S4x256x512 .bf16 :=
  (win0_2.blk (0 : Fin 1)).view.read (Elt F) ((s₀ m ρ).mem ((c : Thread nD τ).loc main_arg3))

/-- The device's number as the kernel computes it. -/
def vAt (c : Dev nD) : BitVec 32 := Scalar.remsi (Scalar.divsi (Dev.word c) 1#32) 8#32

/-- The table of device `c`; -/
def gtAt (c : Dev nD) : Vec F S1024x104 .bf16 := gt (vAt c) (iAt m ρ c)
/-- the message it sends. -/
def msgAt (c : Dev nD) : FVec F S112x512 .bf16 := msg (vAt c) (xAt m ρ c) (iAt m ρ c) (wtAt m ρ c)

/-- The message of slot `s` on device `c` is the one of the device `s` places on. -/
def slotMsg (c : Dev nD) (s : Fin 8) : FVec F S112x512 .bf16 := msgAt m ρ (peer c s)

/-- Slot `s` of device `c`, held with contents `f`. -/
def slotPts (c : Dev nD) (s : Fin 8) (f : Buf (Elt F) ((slotM s).view.loc (c : Thread nD τ))) : sProp 𝕄 :=
  (slotM s).view.loc (c : Thread nD τ) ↦[(slotM s).view.set]{fullShare} f
/-- A share `q` of the message buffer of device `c`, with contents `f`. -/
def srcPts (c : Dev nD) (q : PosShare TreeShare) (f : Buf (Elt F) ((sM : Memref sig .tc .vmem S112x512 .bf16).view.loc (c : Thread nD τ))) : sProp 𝕄 :=
  (sM : Memref sig .tc .vmem S112x512 .bf16).view.loc (c : Thread nD τ) ↦[(sM : Memref sig .tc .vmem S112x512 .bf16).view.set]{q} f

omit [FloatOps F] in
instance slotPts_storable (c : Dev nD) (s : Fin 8) (f) : BI.Storable (upEmb : UEmb _ 𝕄) (slotPts (F := F) c s f) := by unfold slotPts; infer_instance
omit [FloatOps F] in
instance srcPts_storable (c : Dev nD) (q) (f) : BI.Storable (upEmb : UEmb _ 𝕄) (srcPts (F := F) c q f) := by unfold srcPts; infer_instance

/-- What is left of the message buffer after lending it `k` times; -/
def keep : ℕ → PosShare TreeShare
  | 0 => fullShare
  | k + 1 => (keep k).right
/-- the share lent to the copy numbered `d`. -/
def lent (d : Fin 8) : PosShare TreeShare := (keep (d.val - 1)).left

omit [FloatOps F] in
/-- Lending once more. -/
theorem src_lend (c : Dev nD) (k : ℕ) (f) :
    (srcPts (F := F) c (keep k) f : sProp 𝕄) ⊣⊢ iprop(srcPts c (keep k).left f ∗ srcPts c (keep (k + 1)) f) := by
  unfold srcPts
  exact pointsTo_share (PosShare.mem_left_op_right (keep k))

/-! ## The schedule -/

/-- The signal numbered `j` at device `c`'s barrier comes from the device `j` places on, and lends its slot. -/
def barPay (c : Dev nD) (j : Fin 8) : sProp 𝕄 := iprop(∃ f, slotPts (peer c j) (-j) f)
/-- A receive cell hands over its slot holding the message. -/
def recvPay (c : Dev nD) (s : Fin 8) : sProp 𝕄 := iprop(∃ f, ⌜(slotM s).view.read (Elt F) f = slotMsg m ρ c s⌝ ∗ slotPts c s f)
/-- A send cell gives back the share of the message it was lent. -/
def sendPay (c : Dev nD) (d : Fin 8) : sProp 𝕄 := srcPts c (lent d) (msgAt m ρ c)

/-- The seven numbers other than 0. -/
abbrev seven : Finset (Fin 8) := Finset.Ioi 0

/-- The kind of a semaphore, if it is one of the exchange's. -/
def kind (g : GSem nD τ sig) : Option CK := if h : g.1.2 = .tc ∧ ∃ k, csem k = g.2 then some h.2.choose else none

theorem kind_kcell (c : Dev nD) (k : CK) : kind (kcell (c, k)) = some k := by
  unfold kind
  rw [dif_pos ⟨rfl, k, rfl⟩]
  exact congrArg some (csem_injective (Exists.choose_spec (p := fun k' => csem k' = csem k) ⟨k, rfl⟩))

/-- The number of a send or receive cell. -/
def num : Fin 8 ⊕ Fin 8 → Fin 8
  | .inl d => d
  | .inr s => s

/-- One round. A barrier cell has the seven duties 1 to 7, of one unit each; a send or receive cell other than
    number 0 has one duty, of a message's bytes. -/
def Rd : Rounds.Schedule (GSem nD τ sig) (Fin 8) 𝕄 where
  duties g r := if r = 0 then (match kind g with | some none => seven | some (some k) => if num k = 0 then ∅ else {0} | none => ∅) else ∅
  unitless _ := False
  amount g _ _ := match kind g with | some (some _) => N | _ => 1
  payload g _ d := match kind g with
    | some none => barPay g.1.1 d
    | some (some (.inl d)) => sendPay m ρ g.1.1 d
    | some (some (.inr s)) => recvPay m ρ g.1.1 s
    | none => iprop(emp)
  amount_pos g _ _ _ := by
    show 0 < (match kind g with | some (some _) => N | _ => 1)
    split
    · exact N_pos
    · exact Nat.one_pos

instance Rd_storable (g : GSem nD τ sig) (r : ℕ) (d : Fin 8) : BI.Storable (upEmb : UEmb _ 𝕄) ((Rd (F := F) m ρ).payload g r d) := by
  show BI.Storable upEmb (match kind g with
    | some none => barPay g.1.1 d
    | some (some (.inl d)) => sendPay m ρ g.1.1 d
    | some (some (.inr s)) => recvPay m ρ g.1.1 s
    | none => iprop(emp))
  unfold barPay recvPay sendPay
  split <;> infer_instance

section Sched
variable (c : Dev nD)

theorem duties_bar : (Rd (F := F) m ρ).duties (barCell c) 0 = seven := by dsimp only [Rd]; rw [if_pos rfl, kind_kcell]
theorem duties_xfer (k) (hk : num k ≠ 0) : (Rd (F := F) m ρ).duties (kcell (c, some k)) 0 = {0} := by
  dsimp only [Rd]; rw [if_pos rfl, kind_kcell]; exact if_neg hk
/-- The cells numbered 0 are never used. -/
theorem duties_unused (k) (hk : num k = 0) : ∀ r, 0 ≤ r → (Rd (F := F) m ρ).duties (kcell (c, some k)) r = ∅ := fun r _ => by
  dsimp only [Rd]; rw [kind_kcell]
  by_cases hr : r = 0
  · rw [if_pos hr]; exact if_pos hk
  · rw [if_neg hr]
theorem duties_later (g : GSem nD τ sig) : ∀ r, 1 ≤ r → (Rd (F := F) m ρ).duties g r = ∅ :=
  fun r hr => by dsimp only [Rd]; rw [if_neg fun h => by omega]
theorem amount_bar (d : Fin 8) : (Rd (F := F) m ρ).amount (barCell c) 0 d = 1 := by dsimp only [Rd]; rw [kind_kcell]
theorem amount_xfer (k) (d : Fin 8) : (Rd (F := F) m ρ).amount (kcell (c, some k)) 0 d = N := by dsimp only [Rd]; rw [kind_kcell]
theorem expect_bar : (Rd (F := F) m ρ).expect (barCell c) 0 = 7 := by
  unfold Schedule.expect Schedule.amountOf
  rw [duties_bar, Finset.sum_congr rfl fun d _ => amount_bar m ρ c d, Finset.sum_const]; rfl
theorem expect_xfer (k) (hk : num k ≠ 0) : (Rd (F := F) m ρ).expect (kcell (c, some k)) 0 = N := by
  unfold Schedule.expect Schedule.amountOf; rw [duties_xfer m ρ c k hk, Finset.sum_singleton, amount_xfer]
theorem payload_bar (d : Fin 8) : (Rd (F := F) m ρ).payload (barCell c) 0 d = barPay c d := by dsimp only [Rd]; rw [kind_kcell]
theorem payload_send (d j : Fin 8) : (Rd (F := F) m ρ).payload (sendCell c d) 0 j = sendPay m ρ c d := by dsimp only [Rd]; rw [kind_kcell]
theorem payload_recv (s j : Fin 8) : (Rd (F := F) m ρ).payload (recvCell c s) 0 j = recvPay m ρ c s := by dsimp only [Rd]; rw [kind_kcell]

/-- All seven signals give the device the slots it will write. -/
theorem rest_bar : bigSep ((Rd (F := F) m ρ).duties (barCell c) 0 \ ∅) (fun d => (Rd (F := F) m ρ).payload (barCell c) 0 d)
    = bigSep seven fun j => barPay (F := F) c j := by
  rw [Finset.sdiff_empty, duties_bar]; exact bigSep_congr fun d _ => payload_bar m ρ c d
theorem rest_send (d : Fin 8) (hd : d ≠ 0) : bigSep ((Rd (F := F) m ρ).duties (sendCell c d) 0 \ ∅) (fun j => (Rd (F := F) m ρ).payload (sendCell c d) 0 j)
    = sendPay m ρ c d := by
  rw [Finset.sdiff_empty, duties_xfer m ρ c (.inl d) hd, bigSep_singleton, payload_send]
theorem rest_recv (s : Fin 8) (hs : s ≠ 0) : bigSep ((Rd (F := F) m ρ).duties (recvCell c s) 0 \ ∅) (fun j => (Rd (F := F) m ρ).payload (recvCell c s) 0 j)
    = recvPay m ρ c s := by
  rw [Finset.sdiff_empty, duties_xfer m ρ c (.inr s) hs, bigSep_singleton, payload_recv]

end Sched

/-! ## What each device owes; the levels -/

/-- The message bytes device `c` owes the receive cells of the devices numbered in `S`. -/
def OR (c : Dev nD) (S : Finset (Fin 8)) : CellTallies nD τ sig Unit := ∑ d ∈ S, tallyAt (recvCell (peer c d) (-d)) () N
/-- The units device `c` owes their barriers. -/
def OB (c : Dev nD) (S : Finset (Fin 8)) : CellTallies nD τ sig Unit := ∑ d ∈ S, tallyAt (barCell (peer c d)) () 1
/-- What it owes at launch. -/
def O₀ (c : Dev nD) : CellTallies nD τ sig Unit := OR c seven + OB c seven

def L (g : GSem nD τ sig) : Finset Unit := if g.1.2 = .tc then {()} else ∅
/-- Barrier cells at level 1, receive cells at 2, the others at 0. -/
def lv (g : GSem nD τ sig) (_ : Unit) : ℕ := match kind g with | some none => 1 | some (some (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_kcell]
theorem lv_recv (c : Dev nD) (s : Fin 8) : lv (recvCell c s) () = 2 := by unfold lv; rw [kind_kcell]

theorem sum_apply (S : Finset (Fin 8)) (f : Fin 8 → CellTallies nD τ sig Unit) (g : GSem nD τ sig) (u : Unit) :
    (∑ d ∈ S, f d) g u = ∑ d ∈ S, f d g u := by
  classical
  induction S using Finset.induction_on with
  | empty => rfl
  | insert a S ha ih => rw [Finset.sum_insert ha, Finset.sum_insert ha, Pi.add_apply, Finsupp.add_apply, ih]

theorem OR_pos {c : Dev nD} {S : Finset (Fin 8)} {g : GSem nD τ sig} {u : Unit} (h : 0 < OR c S g u) : ∃ a s, g = recvCell a s := by
  unfold OR at h
  rw [sum_apply] at h
  obtain ⟨d, -, hd⟩ := Finset.exists_ne_zero_of_sum_ne_zero h.ne'
  rw [tallyAt_apply] at hd
  by_contra hn
  exact hd (if_neg fun h' => hn ⟨_, _, h'.1⟩)

theorem OB_pos {c : Dev nD} {S : Finset (Fin 8)} {g : GSem nD τ sig} {u : Unit} (h : 0 < OB c S g u) : ∃ a, g = barCell a := by
  unfold OB at h
  rw [sum_apply] at h
  obtain ⟨d, -, hd⟩ := Finset.exists_ne_zero_of_sum_ne_zero h.ne'
  rw [tallyAt_apply] at hd
  by_contra hn
  exact hd (if_neg fun h' => hn ⟨_, h'.1⟩)

theorem O₀_pos {c : Dev nD} {g : GSem nD τ sig} {u : Unit} (h : 0 < O₀ c g u) : (∃ a s, g = recvCell a s) ∨ ∃ a, g = barCell a := by
  unfold O₀ at h
  rw [Pi.add_apply, Finsupp.add_apply] at h
  by_cases h' : 0 < OR c seven g u
  · exact .inl (OR_pos h')
  · exact .inr (OB_pos (S := seven) (c := c) (u := u) (by omega))

omit [FloatOps F] in
/-- The staging cells may be waited for at launch and at the end: nothing owed is below them. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, s, rfl⟩ | ⟨a, rfl⟩ <;> exact Finset.mem_singleton_self _)
      (fun p hp => by rw [Finset.mem_singleton.mp hp]; exact hq.le)
      (fun g u hg => by
        rcases O₀_pos hg with ⟨a, s, rfl⟩ | ⟨a, rfl⟩
        · rw [lv_recv]; decide
        · rw [lv_bar]; decide)
  · rw [MayWait_zero]; iintro -; iempintro

omit [FloatOps F] in
/-- At its barrier wait a device owes receive cells only, which lie above its barrier. -/
theorem mayWait_bar (c : Dev nD) (S : Finset (Fin 8)) :
    (levAts L lv : sProp 𝕄) ⊢ MayWait (c : Thread nD τ) (.reg barS) () (OR c S) :=
  MayOwe.of_cut (L := L) (lev := lv) 1 (fun p hp => by rw [Finset.mem_singleton.mp hp, L_tc]; exact Finset.mem_singleton_self _)
    (fun g u hg => by obtain ⟨a, s, rfl⟩ := OR_pos hg; exact Finset.mem_singleton_self _)
    (fun p hp => by rw [Finset.mem_singleton.mp hp]; exact (lv_bar c).le)
    (fun g u hg => by obtain ⟨a, s, rfl⟩ := OR_pos hg; rw [lv_recv]; decide)

end Cert.MoE

end
-- ==== Proof.Steps.lean ====
/-
# One step of the exchange at a time

The program signals, sends and waits seven times each, and a rule for one step, whichever its number, serves all
of them. A state keeps together what a device still has to do and what it has got back.
-/
module

public import proofs.«01_k».proof.Proof.Protocol

@[expose] public section

set_option maxRecDepth 16384

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `p` on device `c` ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has ended. -/
theorem wp_done (c : Dev nD) {α : Type} {a a' : α} {Q : α → sProp 𝕄} (h : a = a') : Q a' ⊢ WP c (Prog.ret a) Q := by
  subst h
  show Q a ⊢ wp frame (wpE (defs₀ (F := F)) 𝒱₀ (c : Thread nD τ) none) Set.univ (Prog.ret a) Q
  rw [wp_ret]
  iintro H
  imodintro
  iexact H

/-- A program that goes on with another. -/
theorem wp_seq (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  show _ ⊢ wp frame (wpE (defs₀ (F := F)) 𝒱₀ (c : Thread nD τ) none) Set.univ (p >>= k) Q
  rw [wp_bind]

/-! ## What all devices share -/

/-- Every cell's invariant, and that round 0 of every cell is open. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

omit [FloatOps F] in
theorem bigSep_mem {I : Type} [DecidableEq I] {S : Finset I} (i : I) (h : i ∈ S) (Φ : I → sProp 𝕄) : (bigSep S Φ : sProp 𝕄) ⊢ Φ i := bigSep_elim h

omit [FloatOps F] in
theorem bigSep_ins {I : Type} [DecidableEq I] {i : I} {S : Finset I} (h : i ∉ S) {Φ : I → sProp 𝕄} : bigSep (insert i S) Φ = iprop(Φ i ∗ bigSep S Φ) :=
  bigSep_insert h

theorem inv_at (K : Dev nD × CK → ℕ) (ck : Dev nD × CK) : records m ρ K ⊢ cellInv ER (Rd m ρ) (K ck) (kcell ck) := by
  unfold records
  iintro ⟨H, -⟩
  iapply (bigSep_mem (F := F) ck (Finset.mem_univ ck) fun ck => cellInv ER (Rd m ρ) (K ck) (kcell ck)); iexact H

theorem reached_at (K : Dev nD × CK → ℕ) (ck : Dev nD × CK) : records m ρ K ⊢ reached ER (kcell ck) 0 := by
  unfold records
  iintro ⟨-, H⟩
  iapply (bigSep_mem (F := F) ck (Finset.mem_univ ck) fun ck => reached ER (kcell ck) 0); iexact H

/-- Owing `O`, whatever has been waited for. -/
def owesAny (c : Dev nD) (O : CellTallies nD τ sig Unit) : sProp 𝕄 := iprop(∃ W, owes (c : Thread nD τ) O W)

theorem neg_ne_zero8 (d : Fin 8) (h : d ≠ 0) : -d ≠ 0 := by revert d; decide
theorem neg_mem_seven (d : Fin 8) (h : d ≠ 0) : -d ∈ seven := by revert d; decide

/-! ## The signals -/

/-- Before the signal numbered by the least element of `S`. -/
def sigSt (c : Dev nD) (S : Finset (Fin 8)) : sProp 𝕄 :=
  iprop(owesAny c (OR c seven + OB c S) ∗ (bigSep S fun d => dutyTok ER (barCell (peer c d)) 0 (-d)) ∗ bigSep S fun d => iprop(∃ f, slotPts c d f))

theorem OB_insert (c : Dev nD) {S S' : Finset (Fin 8)} {d : Fin 8} (hS : S' = insert d S) (hd : d ∉ S) :
    OB c S' = OB c S + tallyAt (barCell (peer c d)) () 1 := by
  subst hS; unfold OB; rw [Finset.sum_insert hd, add_comm]

theorem OR_insert (c : Dev nD) {S S' : Finset (Fin 8)} {d : Fin 8} (hS : S' = insert d S) (hd : d ∉ S) :
    OR c S' = OR c S + tallyAt (recvCell (peer c d) (-d)) () N := by
  subst hS; unfold OR; rw [Finset.sum_insert hd, add_comm]

/-- Signal `d` goes to the device `d` places on, and lends it slot `d`. -/
theorem signal_step (K : Dev nD × CK → ℕ) (c n : Dev nD) (d : Fin 8) (hn : n = peer c d) {S S' : Finset (Fin 8)}
    (hS : S' = insert d S) (hd : d ∉ S) (h0 : d ≠ 0) {k' : ℕ} (hk : k' = 1) {α : Type} {Q : α → sProp 𝕄} {k : PUnit → Prog (TpuEff nD τ sig (Elt F) Λ₀ .tc) α} :
    iprop(records m ρ K ∗ sigSt c S') ⊢ iprop((sigSt c S -∗ WP c (k ⟨⟩) Q)
      -∗ WP c (.op (.semSignal (Dev.tc n : Thread nD τ) barS k') k) Q) := by
  subst hn
  unfold sigSt owesAny
  rw [OB_insert c hS hd]
  subst hS
  rw [bigSep_ins hd, bigSep_ins hd]
  iintro ⟨#HR, ⟨%W, HO⟩, ⟨Ht, Hts⟩, ⟨Hs, Hss⟩⟩ Hk
  iapply (Rounds.wp_signal 𝒱₀ ER (Rd m ρ) (c : Thread nD τ) none (dst := (peer c d : Thread nD τ)) (κ := K (peer c d, none))
      (r := 0) (d := -d) (by rw [duties_bar]; exact neg_mem_seven d h0) ((amount_bar m ρ (peer c d) (-d)).trans hk.symm) () (OR c seven + OB c S)
      (by rw [hk, add_assoc]) (W := W)) $$ [HO Ht Hs]
  · isplitr; · iapply (inv_at m ρ K (peer c d, none)); iexact HR
    isplitl [HO]; · iexact HO
    isplitl [Ht]; · iexact Ht
    isplitl [Hs]
    · rw [payload_bar]; unfold barPay; rw [peer_neg, neg_neg_eq]; iexact Hs
    · iapply (reached_at m ρ K (peer c d, none)); iexact HR
  iintro HO
  iapply Hk
  isplitl [HO]; · iexists W; iexact HO
  isplitl [Hts] <;> iassumption

/-! ## The barrier wait -/

/-- The wait for the seven signals gives back the slots to write; the barrier is then done with. -/
theorem barrier_step (K : Dev nD × CK → ℕ) (c : Dev nD) {k' : ℕ} (hk : k' = 7) {α : Type} {Q : α → sProp 𝕄} {k : PUnit → Prog (TpuEff nD τ sig (Elt F) Λ₀ .tc) α} :
    iprop(records m ρ K ∗ levAts L lv ∗ owesAny c (OR c seven) ∗ cred (tallyAt (barCell c) () 7) ∗ atPos ER (barCell c) 0 ∅ 0)
      ⊢ iprop(((owesAny c (OR c seven) ∗ semVal (barCell c) 0 ∗ bigSep seven fun j => barPay (F := F) c j) -∗ WP c (k ⟨⟩) Q)
        -∗ WP c (.op (.semWait barS k') k) Q) := by
  subst hk
  unfold owesAny
  iintro ⟨#HR, #Hlev, ⟨%W, HO⟩, Hc, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := OR c seven) (W := W) (R := 0) (m := 0) (T := ∅)
      (by rw [Nat.zero_add]; exact (expect_bar m ρ c).symm)) $$ [Hc HO Hat]
  · isplitr; · iapply (inv_at m ρ K (c, none)); iexact HR
    isplitl [Hc]; · iexact Hc
    isplitl [HO]; · iexact HO
    isplitr; · iapply (mayWait_bar c seven); iexact Hlev
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  iapply Hk
  isplitl [HO]; · iexists _; iexact HO
  isplitl [Hz] <;> iassumption

/-! ## The copies -/

/-- Before the copies numbered in `S`, after those numbered in `D`; the message buffer has been lent `j` times. -/
def sendSt (c : Dev nD) (S D : Finset (Fin 8)) (j : ℕ) : sProp 𝕄 :=
  iprop(owesAny c (OR c S) ∗ (bigSep S fun d => dutyTok ER (recvCell (peer c d) (-d)) 0 0) ∗ (bigSep S fun d => dutyTok ER (sendCell c d) 0 0)
    ∗ (bigSep S fun d => barPay (F := F) c d) ∗ srcPts c (keep j) (msgAt m ρ c) ∗ bigSep D fun d => cred (tallyAt (sendCell c d) () N))

omit [FloatOps F] in
theorem slot_credit (s : Fin 8) (sm : DmaSem sig) : (slotM s).view.amount (.dma sm) = N := rfl

/-- A slot written with the message of device `c` holds what its receive cell promises. -/
theorem landed (c : Dev nD) (d : Fin 8) (fd : Buf (Elt F) ((slotM (-d)).view.loc (peer c d : Thread nD τ))) :
    ((slotM (-d)).view.loc (peer c d : Thread nD τ) ↦[(slotM (-d)).view.set]{fullShare}
        ((slotM (-d)).view.write (Elt F) fd ((sM : Memref sig .tc .vmem S112x512 .bf16).view.read (Elt F) (msgAt m ρ c)) Finset.univ) : sProp 𝕄)
      ⊢ recvPay m ρ (peer c d) (-d) := by
  have h : (slotM (-d)).view.read (Elt F) ((slotM (-d)).view.write (Elt F) fd ((sM : Memref sig .tc .vmem S112x512 .bf16).view.read (Elt F) (msgAt m ρ c)) Finset.univ)
      = slotMsg m ρ (peer c d) (-d) := by
    refine (View.read_write_univ _ _).trans ?_
    unfold slotMsg
    rw [peer_neg]
    exact View.read_whole _ _
  unfold recvPay slotPts
  iintro H
  iexists _
  isplitr
  · ipureintro; exact h
  · iexact H

/-- Copy `d` writes the message into slot `-d` of the device `d` places on. -/
theorem send_step (K : Dev nD × CK → ℕ) (c n : Dev nD) (d : Fin 8) (hn : n = peer c d) {S S' D D' : Finset (Fin 8)} {j : ℕ}
    (hS : S' = insert d S) (hd : d ∉ S) (hD : D' = insert d D) (hd' : d ∉ D) (h0 : d ≠ 0) (hj : d.val - 1 = j)
    {s : Fin 8} (hs : s = -d)
    {hsc : (slotM s : Memref sig (Dev.tc n : Thread nD τ).2.kind .vmem S112x512 .bf16).view.ref.isScScratch = false}
    {hsrc : (sM : Memref sig .tc .vmem S112x512 .bf16).view.WordExact} {hdst : (slotM s : Memref sig .tc .vmem S112x512 .bf16).view.WordExact}
    {hsem : DmaTarget.Typed .vmem (.dma (recvS s)) (.remote (Dev.tc n : Thread nD τ) (slotM s : Memref sig .tc .vmem S112x512 .bf16) (.dma (sendS d)) hsc)}
    {α : Type} {Q : α → sProp 𝕄} {k : PUnit → Prog (TpuEff nD τ sig (Elt F) Λ₀ .tc) α} :
    iprop(records m ρ K ∗ sendSt m ρ c S' D j) ⊢ iprop((sendSt m ρ c S D' (j + 1) -∗ WP c (k ⟨⟩) Q)
      -∗ WP c (.op (.enqueueDma sM (.remote (Dev.tc n : Thread nD τ) (slotM s) (.dma (sendS d)) hsc) (.dma (recvS s)) hsrc hdst hsem) k) Q) := by
  subst hn hs hj
  unfold sendSt owesAny
  rw [OR_insert c hS hd]
  subst hS hD
  rw [bigSep_ins hd, bigSep_ins hd, bigSep_ins hd, bigSep_ins hd']
  iintro ⟨#HR, ⟨%W, HO⟩, ⟨Htr, Htrs⟩, ⟨Hts, Htss⟩, ⟨Hb, Hbs⟩, Hsrc, Hc⟩ Hk
  ihave Hs2 := (src_lend c (d.val - 1) (msgAt m ρ c)).1 $$ Hsrc
  icases Hs2 with ⟨Hlent, Hkeep⟩
  unfold barPay
  icases Hb with ⟨%fd, Hslot⟩
  iapply (Rounds.wp_send_pointsTo 𝒱₀ ER (Rd m ρ) (c : Thread nD τ) none (κ₁ := K (c, some (.inl d))) (κ₂ := K (peer c d, some (.inr (-d))))
    (r₁ := 0) (r₂ := 0) (d₁ := 0) (d₂ := 0) (fs := msgAt m ρ c) (fd := fd) (q := (keep (d.val - 1)).left)
    (by rw [duties_xfer m ρ c (.inl d) h0]; exact Finset.mem_singleton_self _)
    (by rw [duties_xfer m ρ (peer c d) (.inr (-d)) (neg_ne_zero8 d h0)]; exact Finset.mem_singleton_self _)
    () () N (slot_credit _ _) (amount_xfer m ρ c (.inl d) 0) (amount_xfer m ρ (peer c d) (.inr (-d)) 0) (OR c S) rfl (W := W)
    (by rw [payload_send]; exact BI.Entails.refl _)
    (by rw [payload_recv]; exact landed m ρ c d fd)) $$ [Hlent Hslot HO Hts Htr]
  · isplitr; · iapply (inv_at m ρ K (c, some (.inl d))); iexact HR
    isplitr; · iapply (inv_at m ρ K (peer c d, some (.inr (-d)))); iexact HR
    isplitl [Hlent]; · unfold srcPts; iexact Hlent
    isplitl [Hslot]; · unfold slotPts; iexact Hslot
    isplitl [HO]; · iexact HO
    isplitl [Hts]; · iexact Hts
    isplitr; · iapply (reached_at m ρ K (c, some (.inl d))); iexact HR
    isplitl [Htr]; · iexact Htr
    iapply (reached_at m ρ K (peer c d, some (.inr (-d)))); iexact HR
  iintro ⟨Hcs, HO⟩
  iapply Hk
  isplitl [HO]; · iexists W; iexact HO
  isplitl [Htrs]; · iexact Htrs
  isplitl [Htss]; · iexact Htss
  isplitl [Hbs]; · iexact Hbs
  isplitl [Hkeep]; · iexact Hkeep
  isplitl [Hcs] <;> iassumption

/-! ## The waits for the messages -/

/-- Before the waits numbered in `A`, after those numbered in `B`. -/
def recvSt (c : Dev nD) (A B : Finset (Fin 8)) : sProp 𝕄 :=
  iprop(owesAny c 0 ∗ (bigSep A fun s => iprop(cred (tallyAt (recvCell c s) () N) ∗ atPos ER (recvCell c s) 0 ∅ 0))
    ∗ (bigSep B fun s => semVal (recvCell c s) 0) ∗ bigSep B fun s => recvPay m ρ c s)

/-- Wait `s` gives slot `s` with its message; its cell is then done with. -/
theorem recv_step (K : Dev nD × CK → ℕ) (c : Dev nD) (s : Fin 8) {A A' B B' : Finset (Fin 8)}
    (hA : A' = insert s A) (hs : s ∉ A) (hB : B' = insert s B) (hs' : s ∉ B) (h0 : s ≠ 0)
    {hsrc : (slotM s : Memref sig .tc .vmem S112x512 .bf16).view.WordExact} {hdst : (slotM s : Memref sig .tc .vmem S112x512 .bf16).view.WordExact}
    {α : Type} {Q : α → sProp 𝕄} {k : PUnit → Prog (TpuEff nD τ sig (Elt F) Λ₀ .tc) α} :
    iprop(records m ρ K ∗ recvSt m ρ c A' B) ⊢ iprop((recvSt m ρ c A B' -∗ WP c (k ⟨⟩) Q)
      -∗ WP c (.op (.waitDma2 (recvS s) (slotM s) (slotM s) hsrc hdst) k) Q) := by
  subst hA hB
  unfold recvSt owesAny
  rw [bigSep_ins hs, bigSep_ins hs', bigSep_ins hs']
  iintro ⟨#HR, ⟨%W, HO⟩, ⟨⟨Hc, Hat⟩, Hrest⟩, HB1, HB2⟩ Hk
  iapply (Rounds.wp_wait_rest_token 𝒱₀ ER (Rd m ρ) (c : Thread nD τ) none (κ := K (c, some (.inr s)))
      (wpE_waitDma2_eq 𝒱₀ (c : Thread nD τ) none Set.univ) (Set.mem_univ _) () (O := 0) (W := W) (R := 0) (m := 0) (T := ∅)
      (by rw [Nat.zero_add]; exact (slot_credit s (recvS s)).trans (expect_xfer m ρ c (.inr s) h0).symm)) $$ [Hc HO Hat]
  · isplitr; · iapply (inv_at m ρ K (c, some (.inr s))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c s h0)) $$ Hpay
  imod (Rounds.cell_close ER (Rd m ρ) (Set.mem_univ (K (c, some (.inr s)))) (fun h => h) (R := 0 + 1) (duties_later m ρ (recvCell c s))) $$ [Hat] with Hz
  · isplitr; · iapply (inv_at m ρ K (c, some (.inr s))); iexact HR
    iexact Hat
  iapply Hk
  isplitl [HO]; · iexists _; iexact HO
  isplitl [Hrest]; · iexact Hrest
  isplitl [Hz HB1]; · isplitl [Hz] <;> iassumption
  isplitl [Hp] <;> iassumption

/-! ## The waits for the copies -/

/-- Before the waits numbered in `A`, after those numbered in `B`. -/
def doneSt (c : Dev nD) (A B : Finset (Fin 8)) : sProp 𝕄 :=
  iprop(owesAny c 0 ∗ (bigSep A fun d => iprop(cred (tallyAt (sendCell c d) () N) ∗ atPos ER (sendCell c d) 0 ∅ 0))
    ∗ (bigSep B fun d => semVal (sendCell c d) 0) ∗ bigSep B fun d => sendPay m ρ c d)

/-- Wait `d` gives back the share of the message lent to copy `d`; its cell is then done with. -/
theorem done_step (K : Dev nD × CK → ℕ) (c : Dev nD) (d : Fin 8) {A A' B B' : Finset (Fin 8)}
    (hA : A' = insert d A) (hd : d ∉ A) (hB : B' = insert d B) (hd' : d ∉ B) (h0 : d ≠ 0)
    {hsrc : (slotM d : Memref sig .tc .vmem S112x512 .bf16).view.WordExact} {hdst : (sM : Memref sig .tc .vmem S112x512 .bf16).view.WordExact}
    {α : Type} {Q : α → sProp 𝕄} {k : PUnit → Prog (TpuEff nD τ sig (Elt F) Λ₀ .tc) α} :
    iprop(records m ρ K ∗ doneSt m ρ c A' B) ⊢ iprop((doneSt m ρ c A B' -∗ WP c (k ⟨⟩) Q)
      -∗ WP c (.op (.waitDma2 (sendS d) (slotM d) sM hsrc hdst) k) Q) := by
  subst hA hB
  unfold doneSt owesAny
  rw [bigSep_ins hd, bigSep_ins hd', bigSep_ins hd']
  iintro ⟨#HR, ⟨%W, HO⟩, ⟨⟨Hc, Hat⟩, Hrest⟩, HB1, HB2⟩ Hk
  iapply (Rounds.wp_wait_rest_token 𝒱₀ ER (Rd m ρ) (c : Thread nD τ) none (κ := K (c, some (.inl d)))
      (wpE_waitDma2_eq 𝒱₀ (c : Thread nD τ) none Set.univ) (Set.mem_univ _) () (O := 0) (W := W) (R := 0) (m := 0) (T := ∅)
      (by rw [Nat.zero_add]; exact (expect_xfer m ρ c (.inl d) h0).symm)) $$ [Hc HO Hat]
  · isplitr; · iapply (inv_at m ρ K (c, some (.inl d))); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c d h0)) $$ Hpay
  imod (Rounds.cell_close ER (Rd m ρ) (Set.mem_univ (K (c, some (.inl d)))) (fun h => h) (R := 0 + 1) (duties_later m ρ (sendCell c d))) $$ [Hat] with Hz
  · isplitr; · iapply (inv_at m ρ K (c, some (.inl d))); iexact HR
    iexact Hat
  iapply Hk
  isplitl [HO]; · iexists _; iexact HO
  isplitl [Hrest]; · iexact Hrest
  isplitl [Hz HB1]; · isplitl [Hz] <;> iassumption
  isplitl [Hp] <;> iassumption

end Cert.MoE

end
-- ==== Proof.Buffers.lean ====
/-
# The buffers: the table filled block by block, the slots of the landing buffer, the shares of the message
-/
module

public import proofs.«01_k».proof.Proof.Steps
public import Idealize.ShloMosaic.Lib.ValueLayout
public import Idealize.ShloMosaic.Lib.Pipeline.ValueKit.Tiles

@[expose] public section

set_option maxRecDepth 16384

noncomputable section

namespace Cert.MoE

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The table -/

/-- The first `j` of the table's 32 blocks are filled. -/
def Filled (c : Dev nD) (j : ℕ) (f : Vec F S1024x104 .bf16) : Prop :=
  ∀ (p : Fin 1024) (q : Fin 104), 4 * (p.val / 128) + q.val / 26 < j → f (ix2 p q) = gtAt m ρ c (ix2 p q)

/-- Device `c` holds its table, the first `j` blocks filled. -/
def GtSt (c : Dev nD) (j : ℕ) : sProp 𝕄 :=
  iprop(∃ f : Buf (Elt F) ((c : Thread nD τ).loc cc0_scratch0), ⌜Filled m ρ c j f⌝ ∗ (((c : Thread nD τ).loc cc0_scratch0) ↦{fullShare} f))

/-- Writing block `k` of row block `n` fills one block more. -/
theorem filled_write (c : Dev nD) (n k j : ℕ) (hn : n < 8) (hk : k < 4) (hj : j = 4 * n + k)
    {o : Fin 2 → ℕ} (ho : o = ![128 * n, 26 * k]) (inb : ∀ i, o i + S128x26.size i ≤ S1024x104.size i)
    (f : Vec F S1024x104 .bf16) (hf : Filled m ρ c j f) :
    Filled m ρ c (j + 1) (((gM : Memref sig .tc .vmem S1024x104 .bf16).access (Rect.unit (s := S1024x104) o S128x26.size inb)).write (Elt F) f
      (gtBlk (vAt c) (iAt m ρ c) n hn k) Finset.univ) := by
  subst ho
  intro p q h
  by_cases hb : p.val / 128 = n ∧ q.val / 26 = k
  · obtain ⟨h1, h2⟩ := hb
    let x : S128x26.Idx := ix2 (⟨p.val % 128, Nat.mod_lt _ (by decide)⟩ : Fin 128) (⟨q.val % 26, Nat.mod_lt _ (by decide)⟩ : Fin 26)
    have hx : ((gM : Memref sig .tc .vmem S1024x104 .bf16).access (Rect.unit (s := S1024x104) ![128 * n, 26 * k] S128x26.size inb)).emb x = ix2 p q := by
      funext a
      apply Fin.ext
      show ((Rect.unit (s := S1024x104) ![128 * n, 26 * k] S128x26.size inb).idx x a).val = _
      rw [Rect.idx_unit_val]
      fin_cases a
      · show 128 * n + p.val % 128 = p.val
        have := Nat.div_add_mod p.val 128; rw [h1] at this; exact this
      · show 26 * k + q.val % 26 = q.val
        have := Nat.div_add_mod q.val 26; rw [h2] at this; exact this
    rw [← hx, View.write_emb_of_mem _ _ (Finset.mem_univ x)]
    rw [hx]
    subst h1 h2
    rfl
  · have hlt : 4 * (p.val / 128) + q.val / 26 < j := by
      have := q.isLt
      have hq : q.val / 26 < 4 := by omega
      have : ¬ (4 * (p.val / 128) + q.val / 26 = j) := fun he => hb ⟨by omega, by omega⟩
      omega
    rw [← hf p q hlt]
    refine View.write_of_not_mem _ _ _ fun hm => hb ?_
    have hm' : (ix2 p q : S1024x104.Idx) ∈ (Rect.unit (s := S1024x104) ![128 * n, 26 * k] S128x26.size inb).set := by
      rw [View.setOn_univ] at hm
      exact (Finset.ext_iff.mp (View.set_slice_whole cc0_scratch0 (Rect.unit (s := S1024x104) ![128 * n, 26 * k] S128x26.size inb)) _).mp hm
    have h0 := (Rect.mem_set_unit.mp hm') 0
    have h1 := (Rect.mem_set_unit.mp hm') 1
    have h0' : 128 * n ≤ p.val ∧ p.val < 128 * n + 128 := h0
    have h1' : 26 * k ≤ q.val ∧ q.val < 26 * k + 26 := h1
    omega

/-- A read of the table whose result is not used. -/
theorem gt_load (c : Dev nD) (j : ℕ) {r : LoadRect S1024x104} {hl : (gM : Memref sig .tc .vmem S1024x104 .bf16).view.LoadsAt r}
    {α : Type} {Q : α → sProp 𝕄} {k : (r.shape.Idx → Elt F .bf16) → Prog (TpuEff nD τ sig (Elt F) Λ₀ .tc) α} :
    GtSt m ρ c j ⊢ iprop((∀ v, GtSt m ρ c j -∗ WP c (k v) Q) -∗ WP c (.op (.load gM r hl) k) Q) := by
  unfold GtSt
  iintro ⟨%f, %hf, H⟩ Hk
  iapply (wp_load 𝒱₀ (c : Thread nD τ) none Set.univ (m := gM) (Finset.subset_univ _)) $$ H
  iintro H
  iapply Hk
  iexists f
  isplitr; · ipureintro; exact hf
  iexact H

/-- A write of the next block. -/
theorem gt_store (c : Dev nD) (n k j : ℕ) (hn : n < 8) (hk : k < 4) (hj : j = 4 * n + k)
    {o : Fin 2 → ℕ} (ho : o = ![128 * n, 26 * k]) {inb : ∀ i, o i + S128x26.size i ≤ S1024x104.size i}
    {w : FVec F S128x26 .bf16} (hw : w = gtBlk (vAt c) (iAt m ρ c) n hn k)
    {hx : ((gM : Memref sig .tc .vmem S1024x104 .bf16).access (Rect.unit (s := S1024x104) o S128x26.size inb)).Stores Finset.univ}
    {hm} {α : Type} {Q : α → sProp 𝕄} {K : PUnit → Prog (TpuEff nD τ sig (Elt F) Λ₀ .tc) α} :
    GtSt m ρ c j ⊢ iprop((GtSt m ρ c (j + 1) -∗ WP c (K ⟨⟩) Q)
      -∗ WP c (.op (.store gM (Rect.unit (s := S1024x104) o S128x26.size inb) w Finset.univ hx hm) K) Q) := by
  subst hw
  unfold GtSt
  iintro ⟨%f, %hf, H⟩ Hk
  iapply (wp_store 𝒱₀ (c : Thread nD τ) none Set.univ (m := gM) (r := Rect.unit (s := S1024x104) o S128x26.size inb) (Mk := Finset.univ)
    (Finset.subset_univ _)) $$ H
  iintro H
  iapply Hk
  iexists _
  isplitr; · ipureintro; exact filled_write m ρ c n k j hn hk hj ho inb f hf
  iexact H

/-- All 32 blocks filled, the table is there. -/
theorem gt_full (c : Dev nD) : GtSt m ρ c 32 ⊢ (((c : Thread nD τ).loc cc0_scratch0) ↦{fullShare} (gtAt m ρ c) : sProp 𝕄) := by
  unfold GtSt
  iintro ⟨%f, %hf, H⟩
  have h : f = gtAt m ρ c := funext fun i => by
    obtain ⟨p, q, rfl⟩ : ∃ (p : Fin 1024) (q : Fin 104), i = ix2 p q := ⟨i 0, i 1, eq_ix2 i⟩
    exact hf p q (by have := p.isLt; have := q.isLt; omega)
  subst h
  iexact H

/-! ## The experts, one at a time -/

/-- Reading expert `k` of the device's four. -/
theorem read_w (k : Fin 4) {o : Fin 3 → ℕ} (ho : o = ![k.val, 0, 0]) {inb : ∀ i, o i + S1x256x512.size i ≤ S4x256x512.size i} (f : Vec F S4x256x512 .bf16) :
    (wM : Memref sig .tc .vmem S4x256x512 .bf16).view.readAt (Elt F) (Rect.unit (s := S4x256x512) o S1x256x512.size inb).toLoadRect f = wAt f k := by
  subst ho
  funext j
  show f ((Rect.unit (s := S4x256x512) ![k.val, 0, 0] S1x256x512.size inb).idx j) = f (ix3 k (j 1) (j 2))
  congr 1
  funext a
  apply Fin.ext
  rw [Rect.idx_unit_val]
  fin_cases a
  · show k.val + (j 0).val = k.val
    have : (j 0).val < 1 := (j 0).isLt
    omega
  · show 0 + (j 1).val = (j 1).val
    omega
  · show 0 + (j 2).val = (j 2).val
    omega

/-! ## The slots of the landing buffer -/

theorem slot_set (s : Fin 8) : (slotM s).view.set = ((rM : Memref sig .tc .vmem S8x112x512 .bf16).access (slotR s)).set := View.set_reshape _ _

/-- Reading slot `s` as a block of the landing buffer. -/
theorem read_slot (s : Fin 8) (f : Vec F S8x112x512 .bf16) :
    (rM : Memref sig .tc .vmem S8x112x512 .bf16).view.readAt (Elt F) (slotR s).toLoadRect f = slab ((slotM s).view.read (Elt F) f) := by
  funext j
  show f ((slotR s).idx j) = f ((slotR s).idx (Shape.reshapeEquiv squeezes_S1x112x512_S112x512.numel_eq (ix2 (j 1) (j 2))))
  rw [reshapeEquiv_ix2_1ab (a := 112) (b := 512) squeezes_S1x112x512_S112x512.numel_eq (j 1) (j 2)]
  congr 2
  funext a
  fin_cases a
  · apply Fin.ext
    show (j 0).val = 0
    have : (j 0).val < 1 := (j 0).isLt
    omega
  · rfl
  · rfl

/-- A load of slot `s`, its message having come, reads the message. -/
theorem slot_load (c : Dev nD) (s : Fin 8) {A B : Finset (Fin 8)} (hs : s ∈ B) {hl : (rM : Memref sig .tc .vmem S8x112x512 .bf16).view.LoadsAt (slotR s).toLoadRect}
    {α : Type} {Q : α → sProp 𝕄} {k : Vec F S1x112x512 .bf16 → Prog (TpuEff nD τ sig (Elt F) Λ₀ .tc) α} :
    recvSt m ρ c A B ⊢ iprop((recvSt m ρ c A B -∗ WP c (k (slab (slotMsg m ρ c s))) Q) -∗ WP c (.op (.load rM (slotR s).toLoadRect hl) k) Q) := by
  have hins : B = insert s (B.erase s) := (Finset.insert_erase hs).symm
  have hB : (bigSep B fun s => recvPay m ρ c s) = iprop(recvPay m ρ c s ∗ bigSep (B.erase s) fun s => recvPay m ρ c s) := by
    conv_lhs => rw [hins]
    exact bigSep_ins (Finset.notMem_erase s B)
  unfold recvSt
  rw [hB]
  iintro ⟨HO, HA, HB1, Hp, HB2⟩ Hk
  unfold recvPay slotPts
  icases Hp with ⟨%f, %hf, Hs⟩
  iapply (wp_load 𝒱₀ (c : Thread nD τ) none Set.univ (m := rM) (S := (slotM s).view.set) (q := fullShare) (f := f)
    (by rw [slot_set]; exact (View.set_slice (v := (rM : Memref sig .tc .vmem S8x112x512 .bf16).view) (slotR s)).symm.subset)) $$ Hs
  iintro Hs
  rw [read_slot, hf]
  iapply Hk
  isplitl [HO]; · iexact HO
  isplitl [HA]; · iexact HA
  isplitl [HB1]; · iexact HB1
  isplitl [Hs]
  · iexists f
    isplitr; · ipureintro; exact hf
    iexact Hs
  iexact HB2

theorem mem_slot (s : Fin 8) (i : S8x112x512.Idx) : i ∈ (slotM s).view.set ↔ (i 0).val = s.val := by
  rw [slot_set]
  refine (Finset.ext_iff.mp (View.set_slice_whole cc0_scratch2 (slotR s)) i).trans (Rect.mem_set_unit.trans ⟨fun h => ?_, fun h a => ?_⟩)
  · have h0 : s.val ≤ (i 0).val ∧ (i 0).val < s.val + 1 := h 0
    omega
  · fin_cases a
    · show s.val ≤ (i 0).val ∧ (i 0).val < s.val + 1
      omega
    · exact ⟨Nat.zero_le _, (Nat.zero_add 112).symm ▸ (i 1).isLt⟩
    · exact ⟨Nat.zero_le _, (Nat.zero_add 512).symm ▸ (i 2).isLt⟩

theorem slots_cover : (Finset.univ : Finset S8x112x512.Idx) = (Finset.univ : Finset (Fin 8)).biUnion fun s => (slotM s).view.set := by
  ext i
  simp only [Finset.mem_univ, true_iff, Finset.mem_biUnion, true_and]
  exact ⟨i 0, (mem_slot (i 0) i).mpr rfl⟩

theorem slots_disjoint (s s' : Fin 8) (h : s ≠ s') : Disjoint (slotM s).view.set (slotM s').view.set :=
  Finset.disjoint_left.mpr fun i hi hi' => h (Fin.ext (((mem_slot s i).mp hi).symm.trans ((mem_slot s' i).mp hi')))

omit [FloatOps F] in
/-- The landing buffer is its eight slots. -/
theorem slots_split (c : Dev nD) (f : Buf (Elt F) ((c : Thread nD τ).loc cc0_scratch2)) :
    (((c : Thread nD τ).loc cc0_scratch2) ↦{fullShare} f : sProp 𝕄) = bigSep Finset.univ fun s : Fin 8 => slotPts (F := F) c s f := by
  have h := pointsTo_biUnion (Ix := Unit) (Name := ℕ) (U := UU) (Lvl := ℕ) (ℓ := (c : Thread nD τ).loc cc0_scratch2) (q := fullShare) (f := f)
    (Finset.univ : Finset (Fin 8)) (fun s => (slotM s).view.set) (fun s _ s' _ h => slots_disjoint s s' h)
  rw [← slots_cover] at h
  exact h

omit [FloatOps F] in
/-- The eight slots, whatever each holds, are the landing buffer. -/
theorem slots_join (c : Dev nD) :
    (bigSep Finset.univ fun s : Fin 8 => iprop(∃ f, slotPts (F := F) c s f)) ⊢ (iprop(∃ f, (((c : Thread nD τ).loc cc0_scratch2) ↦{fullShare} f)) : sProp 𝕄) := by
  have h (fs : Fin 8 → Buf (Elt F) ((c : Thread nD τ).loc cc0_scratch2)) :=
    pointsTo_biUnion_join (Ix := Unit) (Name := ℕ) (U := UU) (Lvl := ℕ) (ℓ := (c : Thread nD τ).loc cc0_scratch2) (q := fullShare)
    (Finset.univ : Finset (Fin 8)) (fun s => (slotM s).view.set) fs (fs 0) (fun s _ s' _ h => slots_disjoint s s' h)
  rw [← slots_cover] at h
  rw [bigSep_univ_at (fun s : Fin 8 => iprop(∃ f, slotPts (F := F) c s f)) 0]
  iintro ⟨⟨%f0, H0⟩, Hr⟩
  have : ∀ s : Fin 8, Nonempty (Buf (Elt F) ((slotM s).view.loc (c : Thread nD τ))) := fun _ => ⟨f0⟩
  ihave H := (bigSep_exists_pi (Finset.univ.erase (0 : Fin 8)) (fun (s : Fin 8) (f : Buf (Elt F) ((slotM s).view.loc (c : Thread nD τ))) => slotPts (F := F) c s f)) $$ Hr
  icases H with ⟨%fs, Hr⟩
  let fs' : Fin 8 → Buf (Elt F) ((c : Thread nD τ).loc cc0_scratch2) := fun s => if s = 0 then f0 else fs s
  ihave H := (h fs') $$ [H0 Hr]
  · rw [bigSep_univ_at _ (0 : Fin 8)]
    rw [show ((c : Thread nD τ).loc cc0_scratch2 ↦[(slotM 0).view.set]{fullShare} fs' 0 : sProp 𝕄) = slotPts (F := F) c 0 f0 from by
      have : fs' 0 = f0 := if_pos rfl
      rw [this]; rfl]
    isplitl [H0]; · iexact H0
    rw [show (bigSep (Finset.univ.erase (0 : Fin 8)) fun s => ((c : Thread nD τ).loc cc0_scratch2 ↦[(slotM s).view.set]{fullShare} fs' s : sProp 𝕄))
      = bigSep (Finset.univ.erase (0 : Fin 8)) fun s => slotPts (F := F) c s (fs s) from bigSep_congr fun s hs => by
        have : fs' s = fs s := if_neg (Finset.ne_of_mem_erase hs)
        rw [this]; rfl]
    iexact Hr
  icases H with ⟨%g, -, H⟩
  iexists g
  iexact H

/-! ## The shares of the message -/

omit [FloatOps F] in
/-- The message buffer whole. -/
theorem src_whole (c : Dev nD) (f : Buf (Elt F) ((c : Thread nD τ).loc cc0_scratch1)) :
    (srcPts (F := F) c (keep 0) f : sProp 𝕄) = (((c : Thread nD τ).loc cc0_scratch1) ↦{fullShare} f) := by
  unfold srcPts; rw [View.set_whole]; rfl

/-- The seven shares lent come back. -/
theorem src_back (c : Dev nD) :
    iprop(srcPts c (keep 7) (msgAt m ρ c) ∗ bigSep seven fun d => sendPay m ρ c d) ⊢ (srcPts c (keep 0) (msgAt m ρ c) : sProp 𝕄) := by
  rw [show seven = {1, 2, 3, 4, 5, 6, 7} from by decide]
  rw [bigSep_ins (by decide), bigSep_ins (by decide), bigSep_ins (by decide), bigSep_ins (by decide), bigSep_ins (by decide), bigSep_ins (by decide), bigSep_singleton]
  unfold sendPay lent
  iintro ⟨H, H1, H2, H3, H4, H5, H6, H7⟩
  iapply (src_lend c 0 (msgAt m ρ c)).2; isplitl [H1]; · iexact H1
  iapply (src_lend c 1 (msgAt m ρ c)).2; isplitl [H2]; · iexact H2
  iapply (src_lend c 2 (msgAt m ρ c)).2; isplitl [H3]; · iexact H3
  iapply (src_lend c 3 (msgAt m ρ c)).2; isplitl [H4]; · iexact H4
  iapply (src_lend c 4 (msgAt m ρ c)).2; isplitl [H5]; · iexact H5
  iapply (src_lend c 5 (msgAt m ρ c)).2; isplitl [H6]; · iexact H6
  iapply (src_lend c 6 (msgAt m ρ c)).2; isplitl [H7]; · iexact H7
  iexact H

end Cert.MoE

end
-- ==== Proof.Table.lean ====
/-
# The parts of the kernel that fill the table
-/
module

public import proofs.«01_k».proof.Proof.Buffers

@[expose] public section

set_option maxRecDepth 16384

noncomputable section

namespace Cert.MoE

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Part 3: blocks 0 to 1 of the table. -/
theorem part3 (c : Dev nD) {Q : _ → sProp 𝕄} :
    GtSt m ρ c 0 ⊢ iprop((GtSt m ρ c 2 -∗ Q (k0_pay14 (vAt c) (k0_pay5 (F := F)) (rnk (iAt m ρ c) 0 (by decide)) (low (iAt m ρ c) 0 (by decide)) (rid (iAt m ρ c) 0 (by decide))))
      -∗ WP c (k0_part3 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay5 (F := F)) (rnk (iAt m ρ c) 0 (by decide)) (low (iAt m ρ c) 0 (by decide)) (rid (iAt m ρ c) 0 (by decide)) (sel (vAt c) (iAt m ρ c) 0 (by decide) 0)) Q) := by
  rw [k0_part3_eq_skeleton]; unfold k0_part3_skel
  simp only [Prog.lift, Prog.bind_op, Prog.bind_ret, Prog.pure_eq_ret]
  iintro H Hk
  iapply (gt_load m ρ c 0) $$ H; iintro %v76 H
  iapply (gt_store m ρ c 0 0 0 (by decide) (by decide) rfl rfl rfl) $$ H; iintro H
  iapply (gt_load m ρ c 1) $$ H; iintro %v94 H
  iapply (gt_store m ρ c 0 1 1 (by decide) (by decide) rfl rfl rfl) $$ H; iintro H
  ihave H := Hk $$ H
  iapply (wp_done c rfl) $$ H

/-- Part 4: blocks 2 to 3 of the table. -/
theorem part4 (c : Dev nD) {Q : _ → sProp 𝕄} :
    GtSt m ρ c 2 ⊢ iprop((GtSt m ρ c 4 -∗ Q ⟨(pfx (iAt m ρ c) 1 (by decide)), (ohBlk (iAt m ρ c) 1 (by decide)), (rnk (iAt m ρ c) 1 (by decide)), (low (iAt m ρ c) 1 (by decide)), (rid (iAt m ρ c) 1 (by decide)), (sel (vAt c) (iAt m ρ c) 1 (by decide) 0), (Scalar.ofBits .f32 0x3F800000#32)⟩)
      -∗ WP c (k0_part4 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay1 (iAt m ρ c)) (k0_pay2 (iAt m ρ c)) (k0_pay3 (iAt m ρ c)) (k0_pay4 (F := F)) (k0_pay5 (F := F)) (pfx (iAt m ρ c) 0 (by decide)) (ohBlk (iAt m ρ c) 0 (by decide)) (rnk (iAt m ρ c) 0 (by decide)) (low (iAt m ρ c) 0 (by decide)) (rid (iAt m ρ c) 0 (by decide)) (k0_pay14 (vAt c) (k0_pay5 (F := F)) (rnk (iAt m ρ c) 0 (by decide)) (low (iAt m ρ c) 0 (by decide)) (rid (iAt m ρ c) 0 (by decide)))) Q) := by
  rw [k0_part4_eq_skeleton]; unfold k0_part4_skel
  simp only [Prog.lift, Prog.bind_op, Prog.bind_ret, Prog.pure_eq_ret]
  iintro H Hk
  iapply (gt_load m ρ c 2) $$ H; iintro %v112 H
  iapply (gt_store m ρ c 0 2 2 (by decide) (by decide) rfl rfl rfl) $$ H; iintro H
  iapply (gt_load m ρ c 3) $$ H; iintro %v130 H
  iapply (gt_store m ρ c 0 3 3 (by decide) (by decide) rfl rfl rfl) $$ H; iintro H
  ihave H := Hk $$ H
  iapply (wp_done c rfl) $$ H

/-- Part 5: blocks 4 to 5 of the table. -/
theorem part5 (c : Dev nD) {Q : _ → sProp 𝕄} :
    GtSt m ρ c 4 ⊢ iprop((GtSt m ρ c 6 -∗ Q (k0_pay25 (vAt c) (k0_pay5 (F := F)) (rnk (iAt m ρ c) 1 (by decide)) (low (iAt m ρ c) 1 (by decide)) (rid (iAt m ρ c) 1 (by decide))))
      -∗ WP c (k0_part5 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay5 (F := F)) (rnk (iAt m ρ c) 1 (by decide)) (low (iAt m ρ c) 1 (by decide)) (rid (iAt m ρ c) 1 (by decide)) (sel (vAt c) (iAt m ρ c) 1 (by decide) 0) (Scalar.ofBits .f32 0x3F800000#32)) Q) := by
  rw [k0_part5_eq_skeleton]; unfold k0_part5_skel
  simp only [Prog.lift, Prog.bind_op, Prog.bind_ret, Prog.pure_eq_ret]
  iintro H Hk
  iapply (gt_load m ρ c 4) $$ H; iintro %v166 H
  iapply (gt_store m ρ c 1 0 4 (by decide) (by decide) rfl rfl rfl) $$ H; iintro H
  iapply (gt_load m ρ c 5) $$ H; iintro %v184 H
  iapply (gt_store m ρ c 1 1 5 (by decide) (by decide) rfl rfl rfl) $$ H; iintro H
  ihave H := Hk $$ H
  iapply (wp_done c rfl) $$ H

/-- Part 6: blocks 6 to 7 of the table. -/
theorem part6 (c : Dev nD) {Q : _ → sProp 𝕄} :
    GtSt m ρ c 6 ⊢ iprop((GtSt m ρ c 8 -∗ Q ⟨(pfx (iAt m ρ c) 2 (by decide)), (ohBlk (iAt m ρ c) 2 (by decide)), (rnk (iAt m ρ c) 2 (by decide)), (low (iAt m ρ c) 2 (by decide)), (rid (iAt m ρ c) 2 (by decide)), (sel (vAt c) (iAt m ρ c) 2 (by decide) 0), (k0_pay34 (F := F))⟩)
      -∗ WP c (k0_part6 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay1 (iAt m ρ c)) (k0_pay2 (iAt m ρ c)) (k0_pay3 (iAt m ρ c)) (k0_pay4 (F := F)) (k0_pay5 (F := F)) (pfx (iAt m ρ c) 1 (by decide)) (ohBlk (iAt m ρ c) 1 (by decide)) (rnk (iAt m ρ c) 1 (by decide)) (low (iAt m ρ c) 1 (by decide)) (rid (iAt m ρ c) 1 (by decide)) (k0_pay25 (vAt c) (k0_pay5 (F := F)) (rnk (iAt m ρ c) 1 (by decide)) (low (iAt m ρ c) 1 (by decide)) (rid (iAt m ρ c) 1 (by decide)))) Q) := by
  rw [k0_part6_eq_skeleton]; unfold k0_part6_skel
  simp only [Prog.lift, Prog.bind_op, Prog.bind_ret, Prog.pure_eq_ret]
  iintro H Hk
  iapply (gt_load m ρ c 6) $$ H; iintro %v202 H
  iapply (gt_store m ρ c 1 2 6 (by decide) (by decide) rfl rfl rfl) $$ H; iintro H
  iapply (gt_load m ρ c 7) $$ H; iintro %v220 H
  iapply (gt_store m ρ c 1 3 7 (by decide) (by decide) rfl rfl rfl) $$ H; iintro H
  ihave H := Hk $$ H
  iapply (wp_done c rfl) $$ H

/-- Part 7: blocks 8 to 9 of the table. -/
theorem part7 (c : Dev nD) {Q : _ → sProp 𝕄} :
    GtSt m ρ c 8 ⊢ iprop((∀ v, GtSt m ρ c 10 -∗ Q ⟨(k0_pay37 (vAt c) (k0_pay5 (F := F)) (rnk (iAt m ρ c) 2 (by decide)) (low (iAt m ρ c) 2 (by decide)) (rid (iAt m ρ c) 2 (by decide))), v⟩)
      -∗ WP c (k0_part7 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay5 (F := F)) (rnk (iAt m ρ c) 2 (by decide)) (low (iAt m ρ c) 2 (by decide)) (rid (iAt m ρ c) 2 (by decide)) (sel (vAt c) (iAt m ρ c) 2 (by decide) 0) (k0_pay34 (F := F))) Q) := by
  rw [k0_part7_eq_skeleton]; unfold k0_part7_skel
  simp only [Prog.lift, Prog.bind_op, Prog.bind_ret, Prog.pure_eq_ret]
  iintro H Hk
  iapply (gt_load m ρ c 8) $$ H; iintro %v256 H
  iapply (gt_store m ρ c 2 0 8 (by decide) (by decide) rfl rfl rfl) $$ H; iintro H
  iapply (gt_load m ρ c 9) $$ H; iintro %v274 H
  iapply (gt_store m ρ c 2 1 9 (by decide) (by decide) rfl rfl rfl) $$ H; iintro H
  iapply (gt_load m ρ c 10) $$ H; iintro %v292 H
  ihave H := Hk $$ H
  iapply (wp_done c rfl) $$ H

/-- Part 8: blocks 10 to 11 of the table. -/
theorem part8 (c : Dev nD) (v : Vec F S128x26 .bf16) {Q : _ → sProp 𝕄} :
    GtSt m ρ c 10 ⊢ iprop((GtSt m ρ c 12 -∗ Q ⟨(pfx (iAt m ρ c) 3 (by decide)), (ohBlk (iAt m ρ c) 3 (by decide)), (rnk (iAt m ρ c) 3 (by decide)), (low (iAt m ρ c) 3 (by decide)), (rid (iAt m ρ c) 3 (by decide)), (sel (vAt c) (iAt m ρ c) 3 (by decide) 0), (k0_pay46 (k0_pay5 (F := F)))⟩)
      -∗ WP c (k0_part8 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay1 (iAt m ρ c)) (k0_pay2 (iAt m ρ c)) (k0_pay3 (iAt m ρ c)) (k0_pay4 (F := F)) (k0_pay5 (F := F)) (pfx (iAt m ρ c) 2 (by decide)) (ohBlk (iAt m ρ c) 2 (by decide)) (rnk (iAt m ρ c) 2 (by decide)) (low (iAt m ρ c) 2 (by decide)) (rid (iAt m ρ c) 2 (by decide)) (k0_pay37 (vAt c) (k0_pay5 (F := F)) (rnk (iAt m ρ c) 2 (by decide)) (low (iAt m ρ c) 2 (by decide)) (rid (iAt m ρ c) 2 (by decide))) v) Q) := by
  rw [k0_part8_eq_skeleton]; unfold k0_part8_skel
  simp only [Prog.lift, Prog.bind_op, Prog.bind_ret, Prog.pure_eq_ret]
  iintro H Hk
  iapply (gt_store m ρ c 2 2 10 (by decide) (by decide) rfl rfl rfl) $$ H; iintro H
  iapply (gt_load m ρ c 11) $$ H; iintro %v310 H
  iapply (gt_store m ρ c 2 3 11 (by decide) (by decide) rfl rfl rfl) $$ H; iintro H
  ihave H := Hk $$ H
  iapply (wp_done c rfl) $$ H

/-- Part 9: blocks 12 to 13 of the table. -/
theorem part9 (c : Dev nD) {Q : _ → sProp 𝕄} :
    GtSt m ρ c 12 ⊢ iprop((GtSt m ρ c 14 -∗ Q (k0_pay49 (vAt c) (k0_pay5 (F := F)) (rnk (iAt m ρ c) 3 (by decide)) (low (iAt m ρ c) 3 (by decide)) (rid (iAt m ρ c) 3 (by decide))))
      -∗ WP c (k0_part9 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay5 (F := F)) (rnk (iAt m ρ c) 3 (by decide)) (low (iAt m ρ c) 3 (by decide)) (rid (iAt m ρ c) 3 (by decide)) (sel (vAt c) (iAt m ρ c) 3 (by decide) 0) (k0_pay46 (k0_pay5 (F := F)))) Q) := by
  rw [k0_part9_eq_skeleton]; unfold k0_part9_skel
  simp only [Prog.lift, Prog.bind_op, Prog.bind_ret, Prog.pure_eq_ret]
  iintro H Hk
  iapply (gt_load m ρ c 12) $$ H; iintro %v346 H
  iapply (gt_store m ρ c 3 0 12 (by decide) (by decide) rfl rfl rfl) $$ H; iintro H
  iapply (gt_load m ρ c 13) $$ H; iintro %v364 H
  iapply (gt_store m ρ c 3 1 13 (by decide) (by decide) rfl rfl rfl) $$ H; iintro H
  iapply (gt_load m ρ c 14) $$ H; iintro %v382 H
  ihave H := Hk $$ H
  iapply (wp_done c rfl) $$ H

/-- Part 10: blocks 14 to 15 of the table. -/
theorem part10 (c : Dev nD) {Q : _ → sProp 𝕄} :
    GtSt m ρ c 14 ⊢ iprop((GtSt m ρ c 16 -∗ Q ⟨(pfx (iAt m ρ c) 4 (by decide)), (ohBlk (iAt m ρ c) 4 (by decide)), (rnk (iAt m ρ c) 4 (by decide)), (low (iAt m ρ c) 4 (by decide)), (rid (iAt m ρ c) 4 (by decide)), (sel (vAt c) (iAt m ρ c) 4 (by decide) 0), (k0_pay58 (k0_pay5 (F := F))), (k0_pay59 (k0_pay2 (iAt m ρ c)) (k0_pay3 (iAt m ρ c)) (k0_pay4 (F := F)) (pfx (iAt m ρ c) 3 (by decide)) (ohBlk (iAt m ρ c) 3 (by decide)))⟩)
      -∗ WP c (k0_part10 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay1 (iAt m ρ c)) (k0_pay2 (iAt m ρ c)) (k0_pay3 (iAt m ρ c)) (k0_pay4 (F := F)) (k0_pay5 (F := F)) (pfx (iAt m ρ c) 3 (by decide)) (ohBlk (iAt m ρ c) 3 (by decide)) (rnk (iAt m ρ c) 3 (by decide)) (low (iAt m ρ c) 3 (by decide)) (rid (iAt m ρ c) 3 (by decide)) (k0_pay49 (vAt c) (k0_pay5 (F := F)) (rnk (iAt m ρ c) 3 (by decide)) (low (iAt m ρ c) 3 (by decide)) (rid (iAt m ρ c) 3 (by decide)))) Q) := by
  rw [k0_part10_eq_skeleton]; unfold k0_part10_skel
  simp only [Prog.lift, Prog.bind_op, Prog.bind_ret, Prog.pure_eq_ret]
  iintro H Hk
  iapply (gt_store m ρ c 3 2 14 (by decide) (by decide) rfl rfl rfl) $$ H; iintro H
  iapply (gt_load m ρ c 15) $$ H; iintro %v400 H
  iapply (gt_store m ρ c 3 3 15 (by decide) (by decide) rfl rfl rfl) $$ H; iintro H
  ihave H := Hk $$ H
  iapply (wp_done c rfl) $$ H

/-- Part 11: blocks 16 to 17 of the table. -/
theorem part11 (c : Dev nD) {Q : _ → sProp 𝕄} :
    GtSt m ρ c 16 ⊢ iprop((GtSt m ρ c 18 -∗ Q (k0_pay62 (vAt c) (k0_pay5 (F := F)) (rnk (iAt m ρ c) 4 (by decide)) (low (iAt m ρ c) 4 (by decide)) (rid (iAt m ρ c) 4 (by decide))))
      -∗ WP c (k0_part11 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay5 (F := F)) (rnk (iAt m ρ c) 4 (by decide)) (low (iAt m ρ c) 4 (by decide)) (rid (iAt m ρ c) 4 (by decide)) (sel (vAt c) (iAt m ρ c) 4 (by decide) 0) (k0_pay58 (k0_pay5 (F := F))) (k0_pay59 (k0_pay2 (iAt m ρ c)) (k0_pay3 (iAt m ρ c)) (k0_pay4 (F := F)) (pfx (iAt m ρ c) 3 (by decide)) (ohBlk (iAt m ρ c) 3 (by decide)))) Q) := by
  rw [k0_part11_eq_skeleton]; unfold k0_part11_skel
  simp only [Prog.lift, Prog.bind_op, Prog.bind_ret, Prog.pure_eq_ret]
  iintro H Hk
  iapply (gt_load m ρ c 16) $$ H; iintro %v436 H
  iapply (gt_store m ρ c 4 0 16 (by decide) (by decide) rfl rfl rfl) $$ H; iintro H
  iapply (gt_load m ρ c 17) $$ H; iintro %v454 H
  iapply (gt_store m ρ c 4 1 17 (by decide) (by decide) rfl rfl rfl) $$ H; iintro H
  iapply (gt_load m ρ c 18) $$ H; iintro %v472 H
  ihave H := Hk $$ H
  iapply (wp_done c rfl) $$ H

/-- Part 12: blocks 18 to 19 of the table. -/
theorem part12 (c : Dev nD) {Q : _ → sProp 𝕄} :
    GtSt m ρ c 18 ⊢ iprop((GtSt m ρ c 20 -∗ Q ⟨(pfx (iAt m ρ c) 5 (by decide)), (ohBlk (iAt m ρ c) 5 (by decide)), (rnk (iAt m ρ c) 5 (by decide)), (low (iAt m ρ c) 5 (by decide)), (rid (iAt m ρ c) 5 (by decide)), (sel (vAt c) (iAt m ρ c) 5 (by decide) 0), (k0_pay70 (k0_pay2 (iAt m ρ c)) (k0_pay3 (iAt m ρ c)) (k0_pay4 (F := F)) (pfx (iAt m ρ c) 4 (by decide)) (ohBlk (iAt m ρ c) 4 (by decide))), (k0_pay71 (k0_pay5 (F := F)))⟩)
      -∗ WP c (k0_part12 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay1 (iAt m ρ c)) (k0_pay2 (iAt m ρ c)) (k0_pay3 (iAt m ρ c)) (k0_pay4 (F := F)) (k0_pay5 (F := F)) (pfx (iAt m ρ c) 4 (by decide)) (ohBlk (iAt m ρ c) 4 (by decide)) (rnk (iAt m ρ c) 4 (by decide)) (low (iAt m ρ c) 4 (by decide)) (rid (iAt m ρ c) 4 (by decide)) (k0_pay62 (vAt c) (k0_pay5 (F := F)) (rnk (iAt m ρ c) 4 (by decide)) (low (iAt m ρ c) 4 (by decide)) (rid (iAt m ρ c) 4 (by decide)))) Q) := by
  rw [k0_part12_eq_skeleton]; unfold k0_part12_skel
  simp only [Prog.lift, Prog.bind_op, Prog.bind_ret, Prog.pure_eq_ret]
  iintro H Hk
  iapply (gt_store m ρ c 4 2 18 (by decide) (by decide) rfl rfl rfl) $$ H; iintro H
  iapply (gt_load m ρ c 19) $$ H; iintro %v490 H
  iapply (gt_store m ρ c 4 3 19 (by decide) (by decide) rfl rfl rfl) $$ H; iintro H
  ihave H := Hk $$ H
  iapply (wp_done c rfl) $$ H

/-- Part 13: blocks 20 to 22 of the table. -/
theorem part13 (c : Dev nD) {Q : _ → sProp 𝕄} :
    GtSt m ρ c 20 ⊢ iprop((GtSt m ρ c 23 -∗ Q ⟨⟩)
      -∗ WP c (k0_part13 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay5 (F := F)) (rnk (iAt m ρ c) 5 (by decide)) (low (iAt m ρ c) 5 (by decide)) (rid (iAt m ρ c) 5 (by decide)) (sel (vAt c) (iAt m ρ c) 5 (by decide) 0) (k0_pay70 (k0_pay2 (iAt m ρ c)) (k0_pay3 (iAt m ρ c)) (k0_pay4 (F := F)) (pfx (iAt m ρ c) 4 (by decide)) (ohBlk (iAt m ρ c) 4 (by decide))) (k0_pay71 (k0_pay5 (F := F)))) Q) := by
  rw [k0_part13_eq_skeleton]; unfold k0_part13_skel
  simp only [Prog.lift, Prog.bind_op, Prog.bind_ret, Prog.pure_eq_ret]
  iintro H Hk
  iapply (gt_load m ρ c 20) $$ H; iintro %v526 H
  iapply (gt_store m ρ c 5 0 20 (by decide) (by decide) rfl rfl rfl) $$ H; iintro H
  iapply (gt_load m ρ c 21) $$ H; iintro %v544 H
  iapply (gt_store m ρ c 5 1 21 (by decide) (by decide) rfl rfl rfl) $$ H; iintro H
  iapply (gt_load m ρ c 22) $$ H; iintro %v562 H
  iapply (gt_store m ρ c 5 2 22 (by decide) (by decide) rfl rfl rfl) $$ H; iintro H
  ihave H := Hk $$ H
  iapply (wp_done c rfl) $$ H

/-- Part 14: blocks 23 to 23 of the table. -/
theorem part14 (c : Dev nD) {Q : _ → sProp 𝕄} :
    GtSt m ρ c 23 ⊢ iprop((GtSt m ρ c 24 -∗ Q ⟨(pfx (iAt m ρ c) 6 (by decide)), (ohBlk (iAt m ρ c) 6 (by decide)), (rnk (iAt m ρ c) 6 (by decide)), (low (iAt m ρ c) 6 (by decide)), (rid (iAt m ρ c) 6 (by decide)), (sel (vAt c) (iAt m ρ c) 6 (by decide) 0), (k0_pay82 (k0_pay2 (iAt m ρ c)) (k0_pay3 (iAt m ρ c)) (k0_pay4 (F := F)) (k0_pay5 (F := F)) (pfx (iAt m ρ c) 5 (by decide)) (ohBlk (iAt m ρ c) 5 (by decide)))⟩)
      -∗ WP c (k0_part14 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay1 (iAt m ρ c)) (k0_pay2 (iAt m ρ c)) (k0_pay3 (iAt m ρ c)) (k0_pay4 (F := F)) (k0_pay5 (F := F)) (pfx (iAt m ρ c) 5 (by decide)) (ohBlk (iAt m ρ c) 5 (by decide)) (rnk (iAt m ρ c) 5 (by decide)) (low (iAt m ρ c) 5 (by decide)) (rid (iAt m ρ c) 5 (by decide))) Q) := by
  rw [k0_part14_eq_skeleton]; unfold k0_part14_skel
  simp only [Prog.lift, Prog.bind_op, Prog.bind_ret, Prog.pure_eq_ret]
  iintro H Hk
  iapply (gt_load m ρ c 23) $$ H; iintro %v580 H
  iapply (gt_store m ρ c 5 3 23 (by decide) (by decide) rfl rfl rfl) $$ H; iintro H
  ihave H := Hk $$ H
  iapply (wp_done c rfl) $$ H

/-- Part 15: blocks 24 to 26 of the table. -/
theorem part15 (c : Dev nD) {Q : _ → sProp 𝕄} :
    GtSt m ρ c 24 ⊢ iprop((GtSt m ρ c 27 -∗ Q (4#32))
      -∗ WP c (k0_part15 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay5 (F := F)) (rnk (iAt m ρ c) 6 (by decide)) (low (iAt m ρ c) 6 (by decide)) (rid (iAt m ρ c) 6 (by decide)) (sel (vAt c) (iAt m ρ c) 6 (by decide) 0) (k0_pay82 (k0_pay2 (iAt m ρ c)) (k0_pay3 (iAt m ρ c)) (k0_pay4 (F := F)) (k0_pay5 (F := F)) (pfx (iAt m ρ c) 5 (by decide)) (ohBlk (iAt m ρ c) 5 (by decide)))) Q) := by
  rw [k0_part15_eq_skeleton]; unfold k0_part15_skel
  simp only [Prog.lift, Prog.bind_op, Prog.bind_ret, Prog.pure_eq_ret]
  iintro H Hk
  iapply (gt_load m ρ c 24) $$ H; iintro %v616 H
  iapply (gt_store m ρ c 6 0 24 (by decide) (by decide) rfl rfl rfl) $$ H; iintro H
  iapply (gt_load m ρ c 25) $$ H; iintro %v634 H
  iapply (gt_store m ρ c 6 1 25 (by decide) (by decide) rfl rfl rfl) $$ H; iintro H
  iapply (gt_load m ρ c 26) $$ H; iintro %v652 H
  iapply (gt_store m ρ c 6 2 26 (by decide) (by decide) rfl rfl rfl) $$ H; iintro H
  ihave H := Hk $$ H
  iapply (wp_done c rfl) $$ H

/-- Part 16: blocks 27 to 27 of the table. -/
theorem part16 (c : Dev nD) {Q : _ → sProp 𝕄} :
    GtSt m ρ c 27 ⊢ iprop((GtSt m ρ c 28 -∗ Q ⟨(rnk (iAt m ρ c) 7 (by decide)), (low (iAt m ρ c) 7 (by decide)), (rid (iAt m ρ c) 7 (by decide)), (k0_pay90 (k0_pay2 (iAt m ρ c)) (k0_pay3 (iAt m ρ c)) (k0_pay4 (F := F)) (k0_pay5 (F := F)) (pfx (iAt m ρ c) 6 (by decide)) (ohBlk (iAt m ρ c) 6 (by decide))), (k0_pay91 (vAt c) (k0_pay1 (iAt m ρ c)) (k0_pay2 (iAt m ρ c)) (k0_pay3 (iAt m ρ c)) (k0_pay4 (F := F)) (pfx (iAt m ρ c) 6 (by decide)) (ohBlk (iAt m ρ c) 6 (by decide)))⟩)
      -∗ WP c (k0_part16 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay1 (iAt m ρ c)) (k0_pay2 (iAt m ρ c)) (k0_pay3 (iAt m ρ c)) (k0_pay4 (F := F)) (k0_pay5 (F := F)) (pfx (iAt m ρ c) 6 (by decide)) (ohBlk (iAt m ρ c) 6 (by decide)) (rnk (iAt m ρ c) 6 (by decide)) (low (iAt m ρ c) 6 (by decide)) (rid (iAt m ρ c) 6 (by decide)) (4#32)) Q) := by
  rw [k0_part16_eq_skeleton]; unfold k0_part16_skel
  simp only [Prog.lift, Prog.bind_op, Prog.bind_ret, Prog.pure_eq_ret]
  iintro H Hk
  iapply (gt_load m ρ c 27) $$ H; iintro %v670 H
  iapply (gt_store m ρ c 6 3 27 (by decide) (by decide) rfl rfl rfl) $$ H; iintro H
  ihave H := Hk $$ H
  iapply (wp_done c rfl) $$ H

/-- Part 17: blocks 28 to 30 of the table. -/
theorem part17 (c : Dev nD) {Q : _ → sProp 𝕄} :
    GtSt m ρ c 28 ⊢ iprop((GtSt m ρ c 31 -∗ Q (Scalar.muli (vAt c) 4#32))
      -∗ WP c (k0_part17 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) (k0_pay5 (F := F)) (rnk (iAt m ρ c) 7 (by decide)) (low (iAt m ρ c) 7 (by decide)) (rid (iAt m ρ c) 7 (by decide)) (k0_pay90 (k0_pay2 (iAt m ρ c)) (k0_pay3 (iAt m ρ c)) (k0_pay4 (F := F)) (k0_pay5 (F := F)) (pfx (iAt m ρ c) 6 (by decide)) (ohBlk (iAt m ρ c) 6 (by decide))) (k0_pay91 (vAt c) (k0_pay1 (iAt m ρ c)) (k0_pay2 (iAt m ρ c)) (k0_pay3 (iAt m ρ c)) (k0_pay4 (F := F)) (pfx (iAt m ρ c) 6 (by decide)) (ohBlk (iAt m ρ c) 6 (by decide)))) Q) := by
  rw [k0_part17_eq_skeleton]; unfold k0_part17_skel
  simp only [Prog.lift, Prog.bind_op, Prog.bind_ret, Prog.pure_eq_ret]
  iintro H Hk
  iapply (gt_load m ρ c 28) $$ H; iintro %v706 H
  iapply (gt_store m ρ c 7 0 28 (by decide) (by decide) rfl rfl rfl) $$ H; iintro H
  iapply (gt_load m ρ c 29) $$ H; iintro %v724 H
  iapply (gt_store m ρ c 7 1 29 (by decide) (by decide) rfl rfl rfl) $$ H; iintro H
  iapply (gt_load m ρ c 30) $$ H; iintro %v742 H
  iapply (gt_store m ρ c 7 2 30 (by decide) (by decide) rfl rfl rfl) $$ H; iintro H
  ihave H := Hk $$ H
  iapply (wp_done c rfl) $$ H

end Cert.MoE

end
-- ==== Proof.Exchange.lean ====
/-
# The parts of the kernel that meet the other devices, and the ones that make and take the messages
-/
module

public import proofs.«01_k».proof.Proof.Buffers

@[expose] public section

set_option maxRecDepth 16384

noncomputable section

namespace Cert.MoE

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A whole buffer of device `c`, held with contents `f`. -/
abbrev whole (c : Dev nD) (b : Ref sig .tc) (f : Buf (Elt F) ((c : Thread nD τ).loc b)) : sProp 𝕄 := ((c : Thread nD τ).loc b) ↦{fullShare} f

/-- The barrier counter, as the kernel names it. -/
abbrev barArr : Sems sig S_ := SemArray.scalar (sig.barrier 0 rfl)

omit [FloatOps F] in
theorem hz : (![0, 0] : Fin 2 → Nat) = fun _ => 0 := funext fun a => by fin_cases a <;> rfl

omit [FloatOps F] in
theorem read_g (f : Vec F S1024x104 .bf16) :
    (gM : Memref sig .tc .vmem S1024x104 .bf16).view.readAt (Elt F) (Rect.unit (s := S1024x104) ![0, 0] S1024x104.size inb_S1024x104_S1024x104_0_0).toLoadRect f = f :=
  Memref.readAt_unit_zero (Elt F) cc0_scratch0 hz _ f

omit [FloatOps F] in
theorem read_x (f : Vec F S1024x256 .bf16) :
    (xM : Memref sig .tc .vmem S1024x256 .bf16).view.readAt (Elt F) (Rect.unit (s := S1024x256) ![0, 0] S1024x256.size inb_S1024x256_S1024x256_0_0).toLoadRect f = f :=
  Memref.readAt_unit_zero (Elt F) cc0_stg0_0 hz _ f

omit [FloatOps F] in
theorem read_i (f : Vec F S1024x1 .i32) :
    (iM : Memref sig .tc .vmem S1024x1 .i32).view.readAt (Elt F) (Rect.unit (s := S1024x1) ![0, 0] S1024x1.size inb_S1024x1_S1024x1_0_0).toLoadRect f = f :=
  Memref.readAt_unit_zero (Elt F) cc0_stg1_0 hz _ f

omit [FloatOps F] in
theorem write_s (f w : Vec F S112x512 .bf16) :
    ((sM : Memref sig .tc .vmem S112x512 .bf16).access (Rect.unit (s := S112x512) ![0, 0] S112x512.size inb_S112x512_S112x512_0_0)).write (Elt F) f w Finset.univ = w :=
  Memref.write_access_unit_zero_univ (Elt F) cc0_scratch1 hz _ f w

omit [FloatOps F] in
theorem write_o (f w : Vec F S1024x512 .f32) :
    ((oM : Memref sig .tc .vmem S1024x512 .f32).access (Rect.unit (s := S1024x512) ![0, 0] S1024x512.size inb_S1024x512_S1024x512_0_0)).write (Elt F) f w Finset.univ = w :=
  Memref.write_access_unit_zero_univ (Elt F) cc0_stg3_0 hz _ f w

theorem sig_end (c : Dev nD) : sigSt (F := F) c (Finset.Ioi 7) ⊢ owesAny c (OR c seven) := by
  unfold sigSt OB
  rw [show (Finset.Ioi (7 : Fin 8)) = ∅ from by decide, Finset.sum_empty, add_zero]
  iintro ⟨H, -⟩; iexact H

/-- Nothing is owed after the seven copies. -/
theorem send_end (c : Dev nD) : sendSt m ρ c (Finset.Ioi 7) (Finset.Ioc 0 7) 7
    ⊢ iprop(owesAny c 0 ∗ srcPts c (keep 7) (msgAt m ρ c) ∗ bigSep (Finset.Ioc 0 7) fun d => cred (tallyAt (sendCell c d) () N)) := by
  unfold sendSt OR
  rw [show (Finset.Ioi (7 : Fin 8)) = ∅ from by decide, Finset.sum_empty]
  iintro ⟨H, -, -, -, H1, H2⟩
  isplitl [H]; · iexact H
  isplitl [H1] <;> iassumption

/-- The first five signals. -/
theorem part1 (K : Dev nD × CK → ℕ) (c : Dev nD) {Q : _ → sProp 𝕄} :
    iprop(records m ρ K ∗ sigSt c (Finset.Ioi 0)) ⊢ iprop((sigSt c (Finset.Ioi 5) -∗ Q ⟨c, vAt c, barArr, Scalar.addi (vAt c) 6#32, 8#32⟩)
      -∗ WP c (k0_part1 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        ) Q) := by
  rw [k0_part1_eq_skeleton]; unfold k0_part1_skel
  simp only [semSignalWord, semWaitWord, Prog.lift, Prog.bind_op, Prog.bind_ret, Prog.pure_eq_ret]
  show _ ⊢ iprop(_ -∗ wp frame (wpE (defs₀ (F := F)) 𝒱₀ (c : Thread nD τ) none) Set.univ _ Q)
  simp only [wp_deviceId]
  iintro ⟨#HR, H⟩ Hk
  iapply (signal_step m ρ K c ⟨k0_dev1 c, _⟩ 1 (Fin.ext (k0_dev1_eq c)) (S' := Finset.Ioi 0) (S := Finset.Ioi 1) (by decide) (by decide) (by decide) rfl) $$ [H]
  · isplitr; · iexact HR
    iexact H
  iintro H
  iapply (signal_step m ρ K c ⟨k0_dev2 c, _⟩ 2 (Fin.ext (k0_dev2_eq c)) (S' := Finset.Ioi 1) (S := Finset.Ioi 2) (by decide) (by decide) (by decide) rfl) $$ [H]
  · isplitr; · iexact HR
    iexact H
  iintro H
  iapply (signal_step m ρ K c ⟨k0_dev3 c, _⟩ 3 (Fin.ext (k0_dev3_eq c)) (S' := Finset.Ioi 2) (S := Finset.Ioi 3) (by decide) (by decide) (by decide) rfl) $$ [H]
  · isplitr; · iexact HR
    iexact H
  iintro H
  iapply (signal_step m ρ K c ⟨k0_dev4 c, _⟩ 4 (Fin.ext (k0_dev4_eq c)) (S' := Finset.Ioi 3) (S := Finset.Ioi 4) (by decide) (by decide) (by decide) rfl) $$ [H]
  · isplitr; · iexact HR
    iexact H
  iintro H
  iapply (signal_step m ρ K c ⟨k0_dev5 c, _⟩ 5 (Fin.ext (k0_dev5_eq c)) (S' := Finset.Ioi 4) (S := Finset.Ioi 5) (by decide) (by decide) (by decide) rfl) $$ [H]
  · isplitr; · iexact HR
    iexact H
  iintro H
  ihave H := Hk $$ H
  iapply (wp_done c rfl) $$ H

/-- The last two signals, and the first block's ranks. -/
theorem part2 (K : Dev nD × CK → ℕ) (c : Dev nD) {Q : _ → sProp 𝕄} :
    iprop(records m ρ K ∗ sigSt c (Finset.Ioi 5) ∗ whole c cc0_stg1_0 (iAt m ρ c)) ⊢ iprop(((sigSt c (Finset.Ioi 7) ∗ whole c cc0_stg1_0 (iAt m ρ c)) -∗ Q ⟨(k0_pay1 (iAt m ρ c)), (k0_pay2 (iAt m ρ c)), (k0_pay3 (iAt m ρ c)), (k0_pay4 (F := F)), (k0_pay5 (F := F)), (pfx (iAt m ρ c) 0 (by decide)), (ohBlk (iAt m ρ c) 0 (by decide)), (rnk (iAt m ρ c) 0 (by decide)), (low (iAt m ρ c) 0 (by decide)), (rid (iAt m ρ c) 0 (by decide)), (sel (vAt c) (iAt m ρ c) 0 (by decide) 0)⟩)
      -∗ WP c (k0_part2 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        c (vAt c) barArr (Scalar.addi (vAt c) 6#32) 8#32) Q) := by
  rw [k0_part2_eq_skeleton]; unfold k0_part2_skel
  simp only [semSignalWord, semWaitWord, Prog.lift, Prog.bind_op, Prog.bind_ret, Prog.pure_eq_ret]
  iintro ⟨#HR, H, Hi⟩ Hk
  iapply (signal_step m ρ K c ⟨k0_dev6 c, _⟩ 6 (Fin.ext (k0_dev6_eq c)) (S' := Finset.Ioi 5) (S := Finset.Ioi 6) (by decide) (by decide) (by decide) rfl) $$ [H]
  · isplitr; · iexact HR
    iexact H
  iintro H
  iapply (signal_step m ρ K c ⟨k0_dev7 c, _⟩ 7 (Fin.ext (k0_dev7_eq c)) (S' := Finset.Ioi 6) (S := Finset.Ioi 7) (by decide) (by decide) (by decide) rfl) $$ [H]
  · isplitr; · iexact HR
    iexact H
  iintro H
  iapply (wp_load 𝒱₀ (c : Thread nD τ) none Set.univ (m := iM) (Finset.subset_univ _)) $$ Hi; iintro Hi
  rw [read_i]
  ihave H := Hk $$ [H Hi]
  · isplitl [H]; · iexact H
    iexact Hi
  iapply (wp_done c rfl) $$ H

/-- The last block of the table; the first three experts on their slots' tokens. -/
theorem part18 (c : Dev nD) {Q : _ → sProp 𝕄} :
    iprop(GtSt m ρ c 31 ∗ whole c cc0_stg0_0 (xAt m ρ c) ∗ whole c cc0_stg2_0 (wtAt m ρ c)) ⊢ iprop(((whole c cc0_scratch0 (gtAt m ρ c) ∗ whole c cc0_stg0_0 (xAt m ρ c) ∗ whole c cc0_stg2_0 (wtAt m ρ c)) -∗ Q ⟨gtAt m ρ c, ck0 (gtAt m ρ c) (xAt m ρ c) (wtAt m ρ c), ck1 (gtAt m ρ c) (xAt m ρ c) (wtAt m ρ c), ck2 (gtAt m ρ c) (xAt m ρ c) (wtAt m ρ c), k0_pay100 (gtAt m ρ c) (xAt m ρ c)⟩)
      -∗ WP c (k0_part18 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (k0_pay5 (F := F)) (rnk (iAt m ρ c) 7 (by decide)) (low (iAt m ρ c) 7 (by decide)) (rid (iAt m ρ c) 7 (by decide)) (Scalar.muli (vAt c) 4#32)) Q) := by
  rw [k0_part18_eq_skeleton]; unfold k0_part18_skel
  simp only [semSignalWord, semWaitWord, Prog.lift, Prog.bind_op, Prog.bind_ret, Prog.pure_eq_ret]
  iintro ⟨H, Hx, Hw⟩ Hk
  iapply (gt_load m ρ c 31) $$ H; iintro %v760 H
  iapply (gt_store m ρ c 7 3 31 (by decide) (by decide) rfl rfl rfl) $$ H; iintro H
  ihave H := (gt_full m ρ c) $$ H
  iapply (wp_load 𝒱₀ (c : Thread nD τ) none Set.univ (m := gM) (Finset.subset_univ _)) $$ H; iintro H
  rw [read_g]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w 0 (o := ![0, 0, 0]) rfl]
  iapply (wp_load 𝒱₀ (c : Thread nD τ) none Set.univ (m := wM) (Finset.subset_univ _)) $$ Hw; iintro Hw
  rw [read_w 1 (o := ![1, 0, 0]) rfl]
  iapply (wp_load 𝒱₀ (c : Thread nD τ) none Set.univ (m := wM) (Finset.subset_univ _)) $$ Hw; iintro Hw
  rw [read_w 2 (o := ![2, 0, 0]) rfl]
  ihave H := Hk $$ [H Hx Hw]
  · isplitl [H]; · iexact H
    isplitl [Hx]; · iexact Hx
    iexact Hw
  iapply (wp_done c rfl) $$ H

/-- The message is made and stored, and all others are waited for. -/
theorem part19 (K : Dev nD × CK → ℕ) (c : Dev nD) {Q : _ → sProp 𝕄} :
    iprop(records m ρ K ∗ levAts L lv ∗ owesAny c (OR c seven) ∗ cred (tallyAt (barCell c) () 7) ∗ atPos ER (barCell c) 0 ∅ 0
      ∗ whole c cc0_stg2_0 (wtAt m ρ c) ∗ ∃ f, whole c cc0_scratch1 f) ⊢ iprop(((owesAny c (OR c seven) ∗ semVal (barCell c) 0 ∗ (bigSep seven fun j => barPay (F := F) c j) ∗ whole c cc0_stg2_0 (wtAt m ρ c)
      ∗ whole c cc0_scratch1 (msgAt m ρ c)) -∗ Q ⟨ck3 (gtAt m ρ c) (xAt m ρ c) (wtAt m ρ c), k0_pay102 (gtAt m ρ c)⟩)
      -∗ WP c (k0_part19 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) barArr (gtAt m ρ c) (ck0 (gtAt m ρ c) (xAt m ρ c) (wtAt m ρ c)) (ck1 (gtAt m ρ c) (xAt m ρ c) (wtAt m ρ c)) (ck2 (gtAt m ρ c) (xAt m ρ c) (wtAt m ρ c)) (k0_pay100 (gtAt m ρ c) (xAt m ρ c))) Q) := by
  rw [k0_part19_eq_skeleton]; unfold k0_part19_skel
  simp only [semSignalWord, semWaitWord, Prog.lift, Prog.bind_op, Prog.bind_ret, Prog.pure_eq_ret]
  iintro ⟨#HR, #HL, H, Hc, Ha, Hw, ⟨%f, Hs⟩⟩ Hk
  iapply (wp_load 𝒱₀ (c : Thread nD τ) none Set.univ (m := wM) (Finset.subset_univ _)) $$ Hw; iintro Hw
  rw [read_w 3 (o := ![3, 0, 0]) rfl]
  iapply (wp_load 𝒱₀ (c : Thread nD τ) none Set.univ (m := sM) (Finset.subset_univ _)) $$ Hs; iintro Hs
  iapply (wp_store 𝒱₀ (c : Thread nD τ) none Set.univ (m := sM) (r := Rect.unit (s := S112x512) ![0, 0] S112x512.size inb_S112x512_S112x512_0_0) (Mk := Finset.univ) (Finset.subset_univ _)) $$ Hs; iintro Hs
  rw [write_s]
  iapply (barrier_step m ρ K c rfl) $$ [H Hc Ha]
  · isplitr; · iexact HR
    isplitr; · iexact HL
    isplitl [H]; · iexact H
    isplitl [Hc] <;> iassumption
  iintro ⟨H, Hz, Hb⟩
  ihave H := Hk $$ [H Hz Hb Hw Hs]
  · isplitl [H]; · iexact H
    isplitl [Hz]; · iexact Hz
    isplitl [Hb]; · iexact Hb
    isplitl [Hw]; · iexact Hw
    iexact Hs
  iapply (wp_done c rfl) $$ H

/-- Copies 1 to 3. -/
theorem part20 (K : Dev nD × CK → ℕ) (c : Dev nD) {Q : _ → sProp 𝕄} :
    iprop(records m ρ K ∗ sendSt m ρ c (Finset.Ioi 0) (Finset.Ioc 0 0) 0) ⊢ iprop((sendSt m ρ c (Finset.Ioi 3) (Finset.Ioc 0 3) 3 -∗ Q ⟨⟩)
      -∗ WP c (k0_part20 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        c (vAt c)) Q) := by
  rw [k0_part20_eq_skeleton]; unfold k0_part20_skel
  simp only [semSignalWord, semWaitWord, Prog.lift, Prog.bind_op, Prog.bind_ret, Prog.pure_eq_ret]
  iintro ⟨#HR, H⟩ Hk
  iapply (send_step m ρ K c ⟨k0_dev8 c, _⟩ 1 (Fin.ext (k0_dev8_eq c)) (S' := Finset.Ioi 0) (S := Finset.Ioi 1) (D := Finset.Ioc 0 0) (D' := Finset.Ioc 0 1) (j := 0) (by decide) (by decide) (by decide) (by decide) (by decide) rfl (s := 7) (by decide)) $$ [H]
  · isplitr; · iexact HR
    iexact H
  iintro H
  iapply (send_step m ρ K c ⟨k0_dev9 c, _⟩ 2 (Fin.ext (k0_dev9_eq c)) (S' := Finset.Ioi 1) (S := Finset.Ioi 2) (D := Finset.Ioc 0 1) (D' := Finset.Ioc 0 2) (j := 1) (by decide) (by decide) (by decide) (by decide) (by decide) rfl (s := 6) (by decide)) $$ [H]
  · isplitr; · iexact HR
    iexact H
  iintro H
  iapply (send_step m ρ K c ⟨k0_dev10 c, _⟩ 3 (Fin.ext (k0_dev10_eq c)) (S' := Finset.Ioi 2) (S := Finset.Ioi 3) (D := Finset.Ioc 0 2) (D' := Finset.Ioc 0 3) (j := 2) (by decide) (by decide) (by decide) (by decide) (by decide) rfl (s := 5) (by decide)) $$ [H]
  · isplitr; · iexact HR
    iexact H
  iintro H
  ihave H := Hk $$ H
  iapply (wp_done c rfl) $$ H

/-- Copies 4 to 6. -/
theorem part21 (K : Dev nD × CK → ℕ) (c : Dev nD) {Q : _ → sProp 𝕄} :
    iprop(records m ρ K ∗ sendSt m ρ c (Finset.Ioi 3) (Finset.Ioc 0 3) 3) ⊢ iprop((sendSt m ρ c (Finset.Ioi 6) (Finset.Ioc 0 6) 6 -∗ Q ⟨⟩)
      -∗ WP c (k0_part21 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        c (vAt c)) Q) := by
  rw [k0_part21_eq_skeleton]; unfold k0_part21_skel
  simp only [semSignalWord, semWaitWord, Prog.lift, Prog.bind_op, Prog.bind_ret, Prog.pure_eq_ret]
  iintro ⟨#HR, H⟩ Hk
  iapply (send_step m ρ K c ⟨k0_dev11 c, _⟩ 4 (Fin.ext (k0_dev11_eq c)) (S' := Finset.Ioi 3) (S := Finset.Ioi 4) (D := Finset.Ioc 0 3) (D' := Finset.Ioc 0 4) (j := 3) (by decide) (by decide) (by decide) (by decide) (by decide) rfl (s := 4) (by decide)) $$ [H]
  · isplitr; · iexact HR
    iexact H
  iintro H
  iapply (send_step m ρ K c ⟨k0_dev12 c, _⟩ 5 (Fin.ext (k0_dev12_eq c)) (S' := Finset.Ioi 4) (S := Finset.Ioi 5) (D := Finset.Ioc 0 4) (D' := Finset.Ioc 0 5) (j := 4) (by decide) (by decide) (by decide) (by decide) (by decide) rfl (s := 3) (by decide)) $$ [H]
  · isplitr; · iexact HR
    iexact H
  iintro H
  iapply (send_step m ρ K c ⟨k0_dev13 c, _⟩ 6 (Fin.ext (k0_dev13_eq c)) (S' := Finset.Ioi 5) (S := Finset.Ioi 6) (D := Finset.Ioc 0 5) (D' := Finset.Ioc 0 6) (j := 5) (by decide) (by decide) (by decide) (by decide) (by decide) rfl (s := 2) (by decide)) $$ [H]
  · isplitr; · iexact HR
    iexact H
  iintro H
  ihave H := Hk $$ H
  iapply (wp_done c rfl) $$ H

/-- The last copy, the first message. -/
theorem part22 (K : Dev nD × CK → ℕ) (c : Dev nD) (c0 : FVec F S26x512 .bf16) (c1 : FVec F S26x512 .bf16) (c2 : FVec F S26x512 .bf16) (c3 : FVec F S26x512 .bf16) (i : FVec F S1x104 .f32) {Q : _ → sProp 𝕄} :
    iprop(records m ρ K ∗ sendSt m ρ c (Finset.Ioi 6) (Finset.Ioc 0 6) 6
      ∗ bigSep (Finset.Ioc 0 7) fun s => iprop(cred (tallyAt (recvCell c s) () N) ∗ atPos ER (recvCell c s) 0 ∅ 0)) ⊢ iprop(((recvSt m ρ c (Finset.Ioc 0 6) (Finset.Ioi 6) ∗ srcPts c (keep 7) (msgAt m ρ c) ∗ bigSep (Finset.Ioc 0 7) fun d => cred (tallyAt (sendCell c d) () N)) -∗ Q ⟨k0_pay104 (F := F), k0_pay105 c0 c1 c2 c3 i (slab (slotMsg m ρ c 7))⟩)
      -∗ WP c (k0_part22 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        c (vAt c) c0 c1 c2 c3 i) Q) := by
  rw [k0_part22_eq_skeleton]; unfold k0_part22_skel
  simp only [semSignalWord, semWaitWord, Prog.lift, Prog.bind_op, Prog.bind_ret, Prog.pure_eq_ret]
  iintro ⟨#HR, H, Hr⟩ Hk
  iapply (send_step m ρ K c ⟨k0_dev14 c, _⟩ 7 (Fin.ext (k0_dev14_eq c)) (S' := Finset.Ioi 6) (S := Finset.Ioi 7) (D := Finset.Ioc 0 6) (D' := Finset.Ioc 0 7) (j := 6) (by decide) (by decide) (by decide) (by decide) (by decide) rfl (s := 1) (by decide)) $$ [H]
  · isplitr; · iexact HR
    iexact H
  iintro H
  ihave H := (send_end m ρ c) $$ H
  icases H with ⟨HO, Hsrc, Hcr⟩
  ihave Hv : recvSt m ρ c (Finset.Ioc 0 7) (Finset.Ioi 7) $$ [HO Hr]
  · unfold recvSt
    rw [show (Finset.Ioi (7 : Fin 8)) = ∅ from by decide, bigSep_empty, bigSep_empty]
    isplitl [HO]; · iexact HO
    isplitl [Hr]; · iexact Hr
    isplitr <;> iempintro
  iapply (recv_step m ρ K c 7 (A := Finset.Ioc 0 6) (A' := Finset.Ioc 0 7) (B := Finset.Ioi 7) (B' := Finset.Ioi 6) (by decide) (by decide) (by decide) (by decide) (by decide)) $$ [Hv]
  · isplitr; · iexact HR
    iexact Hv
  iintro Hv
  iapply (slot_load m ρ c 7 (by decide)) $$ Hv; iintro Hv
  ihave H := Hk $$ [Hv Hsrc Hcr]
  · isplitl [Hv]; · iexact Hv
    isplitl [Hsrc]; · iexact Hsrc
    iexact Hcr
  iapply (wp_done c rfl) $$ H

/-- The second message, and the wait for the third. -/
theorem part23 (K : Dev nD × CK → ℕ) (c : Dev nD) (t : FVec F S1024x1 .f32) (a : FVec F S1024x512 .f32) {Q : _ → sProp 𝕄} :
    iprop(records m ρ K ∗ recvSt m ρ c (Finset.Ioc 0 6) (Finset.Ioi 6)) ⊢ iprop((recvSt m ρ c (Finset.Ioc 0 4) (Finset.Ioi 4) -∗ Q (k0_pay106 t a (slab (slotMsg m ρ c 6))))
      -∗ WP c (k0_part23 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) t a) Q) := by
  rw [k0_part23_eq_skeleton]; unfold k0_part23_skel
  simp only [semSignalWord, semWaitWord, Prog.lift, Prog.bind_op, Prog.bind_ret, Prog.pure_eq_ret]
  iintro ⟨#HR, H⟩ Hk
  iapply (recv_step m ρ K c 6 (A := Finset.Ioc 0 5) (A' := Finset.Ioc 0 6) (B := Finset.Ioi 6) (B' := Finset.Ioi 5) (by decide) (by decide) (by decide) (by decide) (by decide)) $$ [H]
  · isplitr; · iexact HR
    iexact H
  iintro H
  iapply (slot_load m ρ c 6 (by decide)) $$ H; iintro H
  iapply (recv_step m ρ K c 5 (A := Finset.Ioc 0 4) (A' := Finset.Ioc 0 5) (B := Finset.Ioi 5) (B' := Finset.Ioi 4) (by decide) (by decide) (by decide) (by decide) (by decide)) $$ [H]
  · isplitr; · iexact HR
    iexact H
  iintro H
  ihave H := Hk $$ H
  iapply (wp_done c rfl) $$ H

/-- The third and fourth messages. -/
theorem part24 (K : Dev nD × CK → ℕ) (c : Dev nD) (t : FVec F S1024x1 .f32) (a : FVec F S1024x512 .f32) {Q : _ → sProp 𝕄} :
    iprop(records m ρ K ∗ recvSt m ρ c (Finset.Ioc 0 4) (Finset.Ioi 4)) ⊢ iprop((recvSt m ρ c (Finset.Ioc 0 3) (Finset.Ioi 3) -∗ Q ⟨k0_pay107 t a (slab (slotMsg m ρ c 5)), k0_pay109 (slab (slotMsg m ρ c 4)), k0_pay110 t (slab (slotMsg m ρ c 4))⟩)
      -∗ WP c (k0_part24 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) t a) Q) := by
  rw [k0_part24_eq_skeleton]; unfold k0_part24_skel
  simp only [semSignalWord, semWaitWord, Prog.lift, Prog.bind_op, Prog.bind_ret, Prog.pure_eq_ret]
  iintro ⟨#HR, H⟩ Hk
  iapply (slot_load m ρ c 5 (by decide)) $$ H; iintro H
  iapply (recv_step m ρ K c 4 (A := Finset.Ioc 0 3) (A' := Finset.Ioc 0 4) (B := Finset.Ioi 4) (B' := Finset.Ioi 3) (by decide) (by decide) (by decide) (by decide) (by decide)) $$ [H]
  · isplitr; · iexact HR
    iexact H
  iintro H
  iapply (slot_load m ρ c 4 (by decide)) $$ H; iintro H
  ihave H := Hk $$ H
  iapply (wp_done c rfl) $$ H

/-- The fifth message. -/
theorem part25 (K : Dev nD × CK → ℕ) (c : Dev nD) (t : FVec F S1024x1 .f32) (a : FVec F S1024x512 .f32) (b : FVec F S104x512 .bf16) (d : FVec F S1024x104 .bf16) {Q : _ → sProp 𝕄} :
    iprop(records m ρ K ∗ recvSt m ρ c (Finset.Ioc 0 3) (Finset.Ioi 3)) ⊢ iprop((recvSt m ρ c (Finset.Ioc 0 2) (Finset.Ioi 2) -∗ Q (k0_pay111 t a b d (slab (slotMsg m ρ c 3))))
      -∗ WP c (k0_part25 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) t a b d) Q) := by
  rw [k0_part25_eq_skeleton]; unfold k0_part25_skel
  simp only [semSignalWord, semWaitWord, Prog.lift, Prog.bind_op, Prog.bind_ret, Prog.pure_eq_ret]
  iintro ⟨#HR, H⟩ Hk
  iapply (recv_step m ρ K c 3 (A := Finset.Ioc 0 2) (A' := Finset.Ioc 0 3) (B := Finset.Ioi 3) (B' := Finset.Ioi 2) (by decide) (by decide) (by decide) (by decide) (by decide)) $$ [H]
  · isplitr; · iexact HR
    iexact H
  iintro H
  iapply (slot_load m ρ c 3 (by decide)) $$ H; iintro H
  ihave H := Hk $$ H
  iapply (wp_done c rfl) $$ H

/-- The sixth and seventh messages. -/
theorem part26 (K : Dev nD × CK → ℕ) (c : Dev nD) (t : FVec F S1024x1 .f32) (a : FVec F S1024x512 .f32) {Q : _ → sProp 𝕄} :
    iprop(records m ρ K ∗ recvSt m ρ c (Finset.Ioc 0 2) (Finset.Ioi 2)) ⊢ iprop((recvSt m ρ c (Finset.Ioc 0 0) (Finset.Ioi 0) -∗ Q ⟨k0_pay112 t a (slab (slotMsg m ρ c 2)), k0_pay114 (slab (slotMsg m ρ c 1)), k0_pay115 (slab (slotMsg m ρ c 1))⟩)
      -∗ WP c (k0_part26 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        (vAt c) t a) Q) := by
  rw [k0_part26_eq_skeleton]; unfold k0_part26_skel
  simp only [semSignalWord, semWaitWord, Prog.lift, Prog.bind_op, Prog.bind_ret, Prog.pure_eq_ret]
  iintro ⟨#HR, H⟩ Hk
  iapply (recv_step m ρ K c 2 (A := Finset.Ioc 0 1) (A' := Finset.Ioc 0 2) (B := Finset.Ioi 2) (B' := Finset.Ioi 1) (by decide) (by decide) (by decide) (by decide) (by decide)) $$ [H]
  · isplitr; · iexact HR
    iexact H
  iintro H
  iapply (slot_load m ρ c 2 (by decide)) $$ H; iintro H
  iapply (recv_step m ρ K c 1 (A := Finset.Ioc 0 0) (A' := Finset.Ioc 0 1) (B := Finset.Ioi 1) (B' := Finset.Ioi 0) (by decide) (by decide) (by decide) (by decide) (by decide)) $$ [H]
  · isplitr; · iexact HR
    iexact H
  iintro H
  iapply (slot_load m ρ c 1 (by decide)) $$ H; iintro H
  ihave H := Hk $$ H
  iapply (wp_done c rfl) $$ H

/-- The result is stored, and the first four copies are waited for. -/
theorem part27 (K : Dev nD × CK → ℕ) (c : Dev nD) (t : FVec F S1024x1 .f32) (a : FVec F S1024x512 .f32) (b : FVec F S104x512 .bf16) (i : FVec F S1x104 .f32) {Q : _ → sProp 𝕄} :
    iprop(records m ρ K ∗ doneSt m ρ c (Finset.Ioi 0) (Finset.Ioc 0 0) ∗ ∃ f, whole c cc0_stg3_0 f) ⊢ iprop(((doneSt m ρ c (Finset.Ioi 4) (Finset.Ioc 0 4) ∗ whole c cc0_stg3_0 (k0_pay116 t a b i)) -∗ Q ⟨⟩)
      -∗ WP c (k0_part27 (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4
        t a b i) Q) := by
  rw [k0_part27_eq_skeleton]; unfold k0_part27_skel
  simp only [semSignalWord, semWaitWord, Prog.lift, Prog.bind_op, Prog.bind_ret, Prog.pure_eq_ret]
  iintro ⟨#HR, H, ⟨%f, Ho⟩⟩ Hk
  iapply (wp_load 𝒱₀ (c : Thread nD τ) none Set.univ (m := oM) (Finset.subset_univ _)) $$ Ho; iintro Ho
  iapply (wp_store 𝒱₀ (c : Thread nD τ) none Set.univ (m := oM) (r := Rect.unit (s := S1024x512) ![0, 0] S1024x512.size inb_S1024x512_S1024x512_0_0) (Mk := Finset.univ) (Finset.subset_univ _)) $$ Ho; iintro Ho
  rw [write_o f (k0_pay116 t a b i)]
  iapply (done_step m ρ K c 1 (A := Finset.Ioi 1) (A' := Finset.Ioi 0) (B := Finset.Ioc 0 0) (B' := Finset.Ioc 0 1) (by decide) (by decide) (by decide) (by decide) (by decide)) $$ [H]
  · isplitr; · iexact HR
    iexact H
  iintro H
  iapply (done_step m ρ K c 2 (A := Finset.Ioi 2) (A' := Finset.Ioi 1) (B := Finset.Ioc 0 1) (B' := Finset.Ioc 0 2) (by decide) (by decide) (by decide) (by decide) (by decide)) $$ [H]
  · isplitr; · iexact HR
    iexact H
  iintro H
  iapply (done_step m ρ K c 3 (A := Finset.Ioi 3) (A' := Finset.Ioi 2) (B := Finset.Ioc 0 2) (B' := Finset.Ioc 0 3) (by decide) (by decide) (by decide) (by decide) (by decide)) $$ [H]
  · isplitr; · iexact HR
    iexact H
  iintro H
  iapply (done_step m ρ K c 4 (A := Finset.Ioi 4) (A' := Finset.Ioi 3) (B := Finset.Ioc 0 3) (B' := Finset.Ioc 0 4) (by decide) (by decide) (by decide) (by decide) (by decide)) $$ [H]
  · isplitr; · iexact HR
    iexact H
  iintro H
  ihave H := Hk $$ [H Ho]
  · isplitl [H]; · iexact H
    iexact Ho
  iapply (wp_done c rfl) $$ H

end Cert.MoE

end
-- ==== Proof.Body.lean ====
/-
# The body of the kernel on one device
-/
module

public import proofs.«01_k».proof.Proof.Table
public import proofs.«01_k».proof.Proof.Exchange

@[expose] public section

set_option maxRecDepth 16384

noncomputable section

namespace Cert.MoE

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The result of device `c`. -/
def outAt (c : Dev nD) : Vec F S1024x512 .f32 :=
  out (gtAt m ρ c) (xAt m ρ c) (wtAt m ρ c) fun s => slab (slotMsg m ρ c (Fin.ofNat 8 s))

/-- What device `c` starts with, apart from its buffers: its position in its own cells, a token for each signal and copy it makes, and the credits of its waits. -/
def linear (c : Dev nD) : sProp 𝕄 :=
  iprop(atPos ER (barCell c) 0 ∅ 0
    ∗ (bigSep Finset.univ fun d : Fin 8 => atPos ER (sendCell c d) 0 ∅ 0)
    ∗ (bigSep Finset.univ fun s : Fin 8 => atPos ER (recvCell c s) 0 ∅ 0)
    ∗ (bigSep seven fun d => dutyTok ER (barCell (peer c d)) 0 (-d))
    ∗ (bigSep seven fun d => dutyTok ER (recvCell (peer c d) (-d)) 0 0)
    ∗ (bigSep seven fun d => dutyTok ER (sendCell c d) 0 0))

/-- The credits of its waits. -/
def credits (c : Dev nD) : sProp 𝕄 :=
  iprop(cred (tallyAt (barCell c) () 7) ∗ bigSep seven fun s => cred (tallyAt (recvCell c s) () N))

/-- Its three scratch buffers. -/
def scratch (c : Dev nD) : sProp 𝕄 :=
  iprop((∃ f, whole (F := F) c cc0_scratch0 f) ∗ (∃ f, whole (F := F) c cc0_scratch1 f) ∗ ∃ f, whole (F := F) c cc0_scratch2 f)

/-- All its counters at zero. -/
def zeros (c : Dev nD) : sProp 𝕄 :=
  iprop(semVal (barCell c) 0 ∗ (bigSep Finset.univ fun d : Fin 8 => semVal (sendCell c d) 0) ∗ bigSep Finset.univ fun s : Fin 8 => semVal (recvCell c s) 0)

omit [FloatOps F] in
theorem univ_zero {Φ : Fin 8 → sProp 𝕄} : bigSep Finset.univ Φ = iprop(Φ 0 ∗ bigSep (Finset.Ioi 0) Φ) := by
  rw [show (Finset.univ : Finset (Fin 8)) = insert 0 (Finset.Ioi 0) from by decide, bigSep_ins (by decide)]

theorem empty_table (c : Dev nD) (f : Buf (Elt F) ((c : Thread nD τ).loc cc0_scratch0)) : whole c cc0_scratch0 f ⊢ GtSt m ρ c 0 := by
  unfold GtSt
  iintro H
  iexists f
  isplitr; · ipureintro; exact fun p q h => absurd h (Nat.not_lt_zero _)
  iexact H

omit [FloatOps F] in
theorem slot_any (c : Dev nD) (s : Fin 8) (f : Buf (Elt F) ((c : Thread nD τ).loc cc0_scratch2)) : (slotPts c s f : sProp 𝕄) ⊢ iprop(∃ f, slotPts (F := F) c s f) := by
  iintro H; iexists f; iexact H

theorem slot_back (c : Dev nD) (s : Fin 8) : recvPay m ρ c s ⊢ iprop(∃ f, slotPts (F := F) c s f) := by
  unfold recvPay
  iintro ⟨%f, -, H⟩; iexists f; iexact H

omit [FloatOps F] in
theorem slots_out (c : Dev nD) (f : Buf (Elt F) ((c : Thread nD τ).loc cc0_scratch2)) :
    whole c cc0_scratch2 f ⊢ iprop(slotPts (F := F) c 0 f ∗ bigSep (Finset.Ioi 0) fun s : Fin 8 => iprop(∃ f, slotPts (F := F) c s f)) := by
  refine (Entails.of_eq ((slots_split c f).trans univ_zero)).trans (sep_mono_right (bigSep_mono fun s _ => slot_any c s f))

theorem slots_in (c : Dev nD) (f : Buf (Elt F) ((c : Thread nD τ).loc cc0_scratch2)) :
    iprop(slotPts (F := F) c 0 f ∗ bigSep (Finset.Ioi 0) fun s : Fin 8 => recvPay m ρ c s) ⊢ iprop(∃ f, whole (F := F) c cc0_scratch2 f) := by
  refine BI.Entails.trans ?_ (slots_join c)
  rw [univ_zero]
  exact BIClass.sep_mono (slot_any c 0 f) (bigSep_mono fun s _ => slot_back m ρ c s)

theorem close_send (K : Dev nD × CK → ℕ) (c : Dev nD) :
    iprop(records m ρ K ∗ atPos ER (sendCell c 0) 0 ∅ 0) ⊢ (|={Set.univ}=> semVal (sendCell c 0) 0) := by
  iintro ⟨#HR, Hat⟩
  imod (Rounds.cell_close ER (Rd m ρ) (Set.mem_univ (K (c, some (.inl 0)))) (fun h => h) (R := 0) (duties_unused m ρ c (.inl 0) rfl)) $$ [Hat] with Hz
  · isplitr; · iapply (inv_at m ρ K (c, some (.inl 0))); iexact HR
    iexact Hat
  imodintro
  iexact Hz

theorem close_recv (K : Dev nD × CK → ℕ) (c : Dev nD) :
    iprop(records m ρ K ∗ atPos ER (recvCell c 0) 0 ∅ 0) ⊢ (|={Set.univ}=> semVal (recvCell c 0) 0) := by
  iintro ⟨#HR, Hat⟩
  imod (Rounds.cell_close ER (Rd m ρ) (Set.mem_univ (K (c, some (.inr 0)))) (fun h => h) (R := 0) (duties_unused m ρ c (.inr 0) rfl)) $$ [Hat] with Hz
  · isplitr; · iapply (inv_at m ρ K (c, some (.inr 0))); iexact HR
    iexact Hat
  imodintro
  iexact Hz

set_option maxHeartbeats 1600000 in
/-- The body on device `c`: from what the device starts with to its result, all cells closed and all buffers back. -/
theorem body (K : Dev nD × CK → ℕ) (c : Dev nD) {Q : PUnit → sProp 𝕄} :
    iprop(records m ρ K ∗ levAts L lv ∗ linear c ∗ credits c ∗ scratch c ∗ owesAny c (O₀ c)
      ∗ whole c cc0_stg0_0 (xAt m ρ c) ∗ whole c cc0_stg1_0 (iAt m ρ c) ∗ whole c cc0_stg2_0 (wtAt m ρ c) ∗ ∃ f, whole c cc0_stg3_0 f)
    ⊢ iprop(((scratch c ∗ zeros c ∗ owesAny c 0
      ∗ whole c cc0_stg0_0 (xAt m ρ c) ∗ whole c cc0_stg1_0 (iAt m ρ c) ∗ whole c cc0_stg2_0 (wtAt m ρ c) ∗ whole c cc0_stg3_0 (outAt m ρ c)) -∗ Q ⟨⟩)
      -∗ WP c (cc0_body (F := F) xM (Memref.isWhole_whole _) iM (Memref.isWhole_whole _) wM (Memref.isWhole_whole _) oM (Memref.isWhole_whole _) gM (Memref.isWhole_whole _) sM (Memref.isWhole_whole _) rM (Memref.isWhole_whole _) cc0_scratch3 cc0_scratch4) Q) := by
  rw [cc0_body_eq_skeleton]; unfold cc0_body_skel
  simp only [Prog.lift, Prog.bind_op, Prog.bind_ret, Prog.pure_eq_ret]
  unfold linear credits scratch
  rw [univ_zero, univ_zero]
  iintro ⟨#HR, #HL, ⟨HaB, ⟨HaS0, HaS⟩, ⟨HaR0, HaR⟩, HtB, HtR, HtS⟩, ⟨HcB, HcR⟩, ⟨⟨%f0, Hg⟩, ⟨%f1, Hs⟩, ⟨%f2, Hr⟩⟩, HO, Hx, Hi, Hw, Ho⟩ Hk
  ihave Hr := (slots_out c f2) $$ Hr
  icases Hr with ⟨Hr0, Hr⟩
  ihave H : sigSt c (Finset.Ioi 0) $$ [HO HtB Hr]
  · unfold sigSt O₀
    isplitl [HO]; · iexact HO
    isplitl [HtB]; · iexact HtB
    iexact Hr
  iapply (wp_seq c)
  iapply (part1 m ρ K c) $$ [H]
  · isplitr; · iexact HR
    iexact H
  iintro H
  iapply (wp_seq c)
  iapply (part2 m ρ K c) $$ [H Hi]
  · isplitr; · iexact HR
    isplitl [H] <;> iassumption
  iintro ⟨H, Hi⟩
  ihave HO := (sig_end c) $$ H
  ihave Hg := (empty_table m ρ c f0) $$ Hg
  iapply (wp_seq c); iapply (part3 m ρ c) $$ Hg; iintro Hg
  iapply (wp_seq c); iapply (part4 m ρ c) $$ Hg; iintro Hg
  iapply (wp_seq c); iapply (part5 m ρ c) $$ Hg; iintro Hg
  iapply (wp_seq c); iapply (part6 m ρ c) $$ Hg; iintro Hg
  iapply (wp_seq c); iapply (part7 m ρ c) $$ Hg; iintro %v Hg
  iapply (wp_seq c); iapply (part8 m ρ c v) $$ Hg; iintro Hg
  iapply (wp_seq c); iapply (part9 m ρ c) $$ Hg; iintro Hg
  iapply (wp_seq c); iapply (part10 m ρ c) $$ Hg; iintro Hg
  iapply (wp_seq c); iapply (part11 m ρ c) $$ Hg; iintro Hg
  iapply (wp_seq c); iapply (part12 m ρ c) $$ Hg; iintro Hg
  iapply (wp_seq c); iapply (part13 m ρ c) $$ Hg; iintro Hg
  iapply (wp_seq c); iapply (part14 m ρ c) $$ Hg; iintro Hg
  iapply (wp_seq c); iapply (part15 m ρ c) $$ Hg; iintro Hg
  iapply (wp_seq c); iapply (part16 m ρ c) $$ Hg; iintro Hg
  iapply (wp_seq c); iapply (part17 m ρ c) $$ Hg; iintro Hg
  iapply (wp_seq c)
  iapply (part18 m ρ c) $$ [Hg Hx Hw]
  · isplitl [Hg]; · iexact Hg
    isplitl [Hx] <;> iassumption
  iintro ⟨Hg, Hx, Hw⟩
  iapply (wp_seq c)
  iapply (part19 m ρ K c) $$ [HO HcB HaB Hw Hs]
  · isplitr; · iexact HR
    isplitr; · iexact HL
    isplitl [HO]; · iexact HO
    isplitl [HcB]; · iexact HcB
    isplitl [HaB]; · iexact HaB
    isplitl [Hw]; · iexact Hw
    iexists f1; iexact Hs
  iintro ⟨HO, HzB, Hb, Hw, Hs⟩
  ihave H : sendSt m ρ c (Finset.Ioi 0) (Finset.Ioc 0 0) 0 $$ [HO HtR HtS Hb Hs]
  · unfold sendSt
    rw [show (Finset.Ioc 0 0 : Finset (Fin 8)) = ∅ from by decide, bigSep_empty, src_whole]
    isplitl [HO]; · iexact HO
    isplitl [HtR]; · iexact HtR
    isplitl [HtS]; · iexact HtS
    isplitl [Hb]; · iexact Hb
    isplitl [Hs]; · iexact Hs
    iempintro
  iapply (wp_seq c)
  iapply (part20 m ρ K c) $$ [H]
  · isplitr; · iexact HR
    iexact H
  iintro H
  iapply (wp_seq c)
  iapply (part21 m ρ K c) $$ [H]
  · isplitr; · iexact HR
    iexact H
  iintro H
  iapply (wp_seq c)
  iapply (part22 m ρ K c) $$ [H HcR HaR]
  · isplitr; · iexact HR
    isplitl [H]; · iexact H
    rw [show (Finset.Ioc 0 7 : Finset (Fin 8)) = Finset.Ioi 0 from by decide, bigSep_sep']
    isplitl [HcR] <;> iassumption
  iintro ⟨H, Hs, HcS⟩
  iapply (wp_seq c)
  iapply (part23 m ρ K c) $$ [H]
  · isplitr; · iexact HR
    iexact H
  iintro H
  iapply (wp_seq c)
  iapply (part24 m ρ K c) $$ [H]
  · isplitr; · iexact HR
    iexact H
  iintro H
  iapply (wp_seq c)
  iapply (part25 m ρ K c) $$ [H]
  · isplitr; · iexact HR
    iexact H
  iintro H
  iapply (wp_seq c)
  iapply (part26 m ρ K c) $$ [H]
  · isplitr; · iexact HR
    iexact H
  iintro H
  unfold recvSt
  icases H with ⟨HO, -, HzR, Hr⟩
  ihave H : doneSt m ρ c (Finset.Ioi 0) (Finset.Ioc 0 0) $$ [HO HcS HaS]
  · unfold doneSt
    rw [show (Finset.Ioc 0 7 : Finset (Fin 8)) = Finset.Ioi 0 from by decide, show (Finset.Ioc 0 0 : Finset (Fin 8)) = ∅ from by decide, bigSep_empty, bigSep_empty, bigSep_sep']
    isplitl [HO]; · iexact HO
    isplitl [HcS HaS]
    · isplitl [HcS] <;> iassumption
    isplitr <;> iempintro
  iapply (wp_seq c)
  iapply (part27 m ρ K c) $$ [H Ho]
  · isplitr; · iexact HR
    isplitl [H] <;> iassumption
  iintro ⟨H, Ho⟩
  iapply (done_step m ρ K c 5 (A := Finset.Ioi 5) (A' := Finset.Ioi 4) (B := Finset.Ioc 0 4) (B' := Finset.Ioc 0 5) (by decide) (by decide) (by decide) (by decide) (by decide)) $$ [H]
  · isplitr; · iexact HR
    iexact H
  iintro H
  iapply (done_step m ρ K c 6 (A := Finset.Ioi 6) (A' := Finset.Ioi 5) (B := Finset.Ioc 0 5) (B' := Finset.Ioc 0 6) (by decide) (by decide) (by decide) (by decide) (by decide)) $$ [H]
  · isplitr; · iexact HR
    iexact H
  iintro H
  iapply (done_step m ρ K c 7 (A := Finset.Ioi 7) (A' := Finset.Ioi 6) (B := Finset.Ioc 0 6) (B' := Finset.Ioc 0 7) (by decide) (by decide) (by decide) (by decide) (by decide)) $$ [H]
  · isplitr; · iexact HR
    iexact H
  iintro H
  unfold doneSt
  rw [show (Finset.Ioc 0 7 : Finset (Fin 8)) = Finset.Ioi 0 from by decide]
  icases H with ⟨HO, -, HzS, Hp⟩
  ihave Hs := (src_back m ρ c) $$ [Hs Hp]
  · isplitl [Hs] <;> iassumption
  ihave Hs := (Entails.of_eq (src_whole c (msgAt m ρ c))) $$ Hs
  ihave Hr := (slots_in m ρ c f2) $$ [Hr0 Hr]
  · isplitl [Hr0] <;> iassumption
  icases Hr with ⟨%f3, Hr⟩
  imod (close_send m ρ K c) $$ [HaS0] with HzS0
  · isplitr; · iexact HR
    iexact HaS0
  imod (close_recv m ρ K c) $$ [HaR0] with HzR0
  · isplitr; · iexact HR
    iexact HaR0
  iapply (wp_done c rfl)
  iapply Hk
  isplitl [Hg Hs Hr]
  · isplitl [Hg]; · iexists _; iexact Hg
    isplitl [Hs]; · iexists _; iexact Hs
    iexists f3; iexact Hr
  isplitl [HzB HzS HzS0 HzR HzR0]
  · unfold zeros
    rw [univ_zero, univ_zero]
    isplitl [HzB]; · iexact HzB
    isplitl [HzS HzS0]
    · isplitl [HzS0] <;> iassumption
    isplitl [HzR0] <;> iassumption
  isplitl [HO]; · iexact HO
  isplitl [Hx]; · iexact Hx
  isplitl [Hi]; · iexact Hi
  isplitl [Hw]; · iexact Hw
  iexact Ho

end Cert.MoE

end
-- ==== Proof.Launch.lean ====
/-
# The launch: the tokens dealt, the credits, and the whole run
-/
module

public import proofs.«01_k».proof.Proof.Body
public import proofs.«01_k».proof.Proof.Gen.KernelIdeal.Points
public import Idealize.ShloMosaic.Lib.Pipeline.CollectiveSegs

@[expose] public section

set_option maxRecDepth 16384

noncomputable section

namespace Cert.MoE

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c`'s body starts from, apart from its scratch buffers. -/
def start (c : Dev nD) : sProp 𝕄 := iprop((∃ K, records m ρ K ∗ linear c) ∗ credits c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => iAt m ρ c
    | ⟨2, _⟩ => wtAt m ρ c
    | ⟨3, _⟩ => outAt m ρ c
  Φ t := match t with
    | ⟨0, _⟩ => iprop(start m ρ c ∗ scratch c)
    | ⟨_ + 1, _⟩ => iprop(scratch c ∗ zeros c)
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m ρ c ∗ scratch c) ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop((scratch c ∗ zeros c) ∗ (dats m ρ 0 c).owesAt () t0_0.succ ∗ stg c cc0_stg0_0 (xAt m ρ c) ∗ stg c cc0_stg1_0 (iAt m ρ c)
    ∗ stg c cc0_stg2_0 (wtAt m ρ c) ∗ stg c cc0_stg3_0 (outAt m ρ c))

theorem before_0 (c : Dev nD) (d) : (dats m ρ 0 c).before (0 : Fin 4) t0_0 d = xAt m ρ c := by
  unfold Dat.before; rw [if_pos (fetch0_0 t0_0)]; rfl
theorem before_1 (c : Dev nD) (d) : (dats m ρ 0 c).before (1 : Fin 4) t0_0 d = iAt m ρ c := by
  unfold Dat.before; rw [if_pos (fetch0_1 t0_0)]; rfl
theorem before_2 (c : Dev nD) (d) : (dats m ρ 0 c).before (2 : Fin 4) t0_0 d = wtAt m ρ c := by
  unfold Dat.before; rw [if_pos (fetch0_2 t0_0)]; rfl

theorem body_ends (c : Dev nD) : bodyPre m ρ c ⊢ WP c (cc0_body (F := F) xM (Memref.isWhole_whole _) iM (Memref.isWhole_whole _) wM (Memref.isWhole_whole _)
    oM (Memref.isWhole_whole _) gM (Memref.isWhole_whole _) sM (Memref.isWhole_whole _) rM (Memref.isWhole_whole _) cc0_scratch3 cc0_scratch4) (fun _ => bodyPost m ρ c) := by
  unfold bodyPre start Dat.owesAt Pipeline.owesWithin
  rw [show (dats m ρ 0 c).owed t0_0.castSucc = O₀ c from rfl]
  iintro ⟨⟨⟨⟨%K, ⟨HR, Hlin⟩⟩, Hcr, HL⟩, Hscr⟩, ⟨%W, %hW, HO⟩, ⟨%d0, %g0, %hg0, Hx⟩, ⟨%d1, %g1, %hg1, Hi⟩, ⟨%d2, %g2, %hg2, Hw⟩, ⟨%d3, %g3, %hg3, Ho⟩⟩
  have h0 : g0 = xAt m ρ c := hg0.trans (before_0 m ρ c d0)
  have h1 : g1 = iAt m ρ c := hg1.trans (before_1 m ρ c d1)
  have h2 : g2 = wtAt m ρ c := hg2.trans (before_2 m ρ c d2)
  clear hg0 hg1 hg2
  subst h0 h1 h2
  iapply (body m ρ K c) $$ [HR Hlin Hcr HL Hscr HO Hx Hi Hw Ho]
  · isplitl [HR]; · iexact HR
    isplitl [HL]; · iexact HL
    isplitl [Hlin]; · iexact Hlin
    isplitl [Hcr]; · iexact Hcr
    isplitl [Hscr]; · iexact Hscr
    isplitl [HO]; · unfold owesAny; iexists W; iexact HO
    isplitl [Hx]; · iexact Hx
    isplitl [Hi]; · iexact Hi
    isplitl [Hw]; · iexact Hw
    iexists g3; iexact Ho
  unfold owesAny bodyPost Dat.owesAt Pipeline.owesWithin
  rw [show (dats m ρ 0 c).owed t0_0.succ = 0 from rfl]
  iintro ⟨Hscr, Hz, ⟨%W', HO⟩, Hx, Hi, Hw, Ho⟩
  isplitl [Hscr Hz]
  · isplitl [Hscr] <;> iassumption
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Ho

theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact body_ends m ρ c

/-! ## The ghost state -/

/-- The kernel's own semaphores: the send cells' and the receive cells'. -/
abbrev osem : Fin 8 ⊕ Fin 8 → SemLoc sig := fun k => csem (some k)

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- The tokens as minted: eight for each device's barrier, one for each of its send cells and each of its receive cells. -/
abbrev tokOf : Dev nD × (Fin 8 ⊕ (Fin 8 ⊕ Fin 8)) → GSem nD τ sig × ℕ × Fin 8
  | (c, .inl j) => (barCell c, 0, j)
  | (c, .inr k) => (kcell (c, some k), 0, 0)

theorem tokOf_injective : Function.Injective tokOf := by
  rintro ⟨c, j⟩ ⟨c', j'⟩ h
  have hd : (tokOf (c, j)).1.1.1 = (tokOf (c', j')).1.1.1 := congrArg (fun x : GSem nD τ sig × ℕ × Fin 8 => x.1.1.1) h
  have hs : (tokOf (c, j)).1.2 = (tokOf (c', j')).1.2 := congrArg (fun x : GSem nD τ sig × ℕ × Fin 8 => x.1.2) h
  have ht : (tokOf (c, j)).2.2 = (tokOf (c', j')).2.2 := congrArg (fun x : GSem nD τ sig × ℕ × Fin 8 => x.2.2) h
  rcases j with j | k <;> rcases j' with j' | k'
  · have h1 : c = c' := hd
    have h2 : j = j' := ht
    rw [h1, h2]
  · have : csem none = csem (some k') := hs
    exact absurd (csem_injective this) (by simp)
  · have : csem (some k) = csem none := hs
    exact absurd (csem_injective this) (by simp)
  · have h1 : c = c' := hd
    have : csem (some k) = csem (some k') := hs
    have h2 : k = k' := Option.some.inj (csem_injective this)
    rw [h1, h2]

def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun j : Fin 8 => dutyTok ER (barCell c) 0 j) ∗ (bigSep Finset.univ fun d : Fin 8 => dutyTok ER (sendCell c d) 0 0)
    ∗ bigSep Finset.univ fun s : Fin 8 => dutyTok ER (recvCell c s) 0 0)

/-- What the launch deals device `c`. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the devices make of it together. -/
def G' (c : Dev nD) : sProp 𝕄 := iprop(∃ K, records m ρ K ∗ linear c)

omit [FloatOps F] in
/-- Over a device's kinds of cell: the barrier, the send cells, the receive cells. -/
theorem bigSep_CK (Φ : CK → sProp 𝕄) : bigSep Finset.univ Φ
    = iprop(Φ none ∗ (bigSep Finset.univ fun d : Fin 8 => Φ (some (.inl d))) ∗ bigSep Finset.univ fun s : Fin 8 => Φ (some (.inr s))) := by
  rw [show (Finset.univ : Finset CK) = insert none (Finset.univ.map Function.Embedding.some) from by decide, bigSep_ins (by decide), bigSep_map, bigSep_univ_sum]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun d : Fin 8 => semVal (sendCell c d) 0) ∗ bigSep Finset.univ fun s : Fin 8 => semVal (recvCell c s) 0) := by
  unfold Pipeline.ownSems0; rw [bigSep_univ_sum]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((bigSep seven fun d => dutyTok ER (barCell (peer c d)) 0 (-d))
    ∗ (bigSep seven fun d => dutyTok ER (recvCell (peer c d) (-d)) 0 0)
    ∗ (bigSep seven fun d => dutyTok ER (sendCell c d) 0 0))

omit [FloatOps F] in
/-- What belongs to pairs of a device and a number, dealt to the device that many places back. -/
theorem deal (Φ : Dev nD → Fin 8 → sProp 𝕄) :
    (bigSep Finset.univ fun c : Dev nD => bigSep Finset.univ fun j : Fin 8 => Φ c j) ⊢ bigSep Finset.univ fun c : Dev nD => bigSep seven fun d => Φ (peer c d) (-d) := by
  have h1 := bigSep_univ_prod (fun cj : Dev nD × Fin 8 => Φ cj.1 cj.2)
  have h2 := bigSep_univ_equiv turn (fun cj : Dev nD × Fin 8 => Φ cj.1 cj.2)
  have h3 := bigSep_univ_prod (fun cj : Dev nD × Fin 8 => Φ (turn cj).1 (turn cj).2)
  refine (Entails.of_eq (h1.symm.trans (h2.trans h3))).trans (bigSep_mono fun c _ => ?_)
  exact bigSep_subset (Finset.subset_univ seven)

omit [FloatOps F] in
theorem own_sends : (bigSep Finset.univ fun c : Dev nD => bigSep Finset.univ fun d : Fin 8 => (dutyTok ER (sendCell c d) 0 0 : sProp 𝕄))
    ⊢ bigSep Finset.univ fun c : Dev nD => bigSep seven fun d : Fin 8 => dutyTok ER (sendCell c d) 0 0 :=
  bigSep_mono fun c _ => bigSep_subset (Finset.subset_univ seven)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨H1, H2, H3⟩
  isplitl [H1]; · iapply (deal fun c j => dutyTok ER (barCell c) 0 j) $$ H1
  isplitl [H3]; · iapply (deal fun c s => dutyTok ER (recvCell c s) 0 0) $$ H3
  iapply (own_sends (F := F)) $$ H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m ρ K ∗ linear c) ⊢ G' m ρ c := by
  unfold G'
  iintro H; iexists K; iexact H

omit [FloatOps F] in
theorem linear_intro (c : Dev nD) :
    iprop((bigSep Finset.univ fun k : CK => atPos ER (kcell (c, k)) 0 ∅ 0) ∗ payToks c) ⊢ (linear c : sProp 𝕄) := by
  unfold linear payToks
  rw [bigSep_CK]
  iintro ⟨⟨HB, HS, HV⟩, H⟩
  isplitl [HB]; · iexact HB
  isplitl [HS]; · iexact HS
  isplitl [HV]; · iexact HV
  iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem kcell_iff (a c : Dev nD) (k k' : CK) : kcell (a, k) = kcell (c, k') ↔ a = c ∧ k = k' :=
  ⟨fun h => by have := kcell_injective h; exact ⟨congrArg Prod.fst this, congrArg Prod.snd this⟩, fun ⟨h, h'⟩ => by rw [h, h']⟩

theorem owed_bar (d c : Dev nD) : O₀ d (barCell c) () = ∑ j ∈ seven, if peer d j = c then 1 else 0 := by
  unfold O₀ OR OB
  rw [Pi.add_apply, Finsupp.add_apply, sum_apply, sum_apply, Finset.sum_eq_zero, Nat.zero_add]
  · refine Finset.sum_congr rfl fun j _ => ?_
    rw [tallyAt_apply]
    by_cases h : peer d j = c
    · rw [if_pos ⟨by rw [h], rfl⟩, if_pos h]
    · rw [if_neg (fun h' => h ((kcell_iff _ _ _ _).mp h'.1).1.symm), if_neg h]
  · intro j _
    rw [tallyAt_apply]
    exact if_neg fun h' => by have := ((kcell_iff _ _ _ _).mp h'.1).2; simp at this

theorem owed_recv (d c : Dev nD) (s : Fin 8) : O₀ d (recvCell c s) () = ∑ j ∈ seven, if peer d j = c ∧ -j = s then N else 0 := by
  unfold O₀ OR OB
  rw [Pi.add_apply, Finsupp.add_apply, sum_apply, sum_apply, Finset.sum_eq_zero (s := seven) (f := fun j => tallyAt (barCell (peer d j)) () 1 (recvCell c s) ()), Nat.add_zero]
  · refine Finset.sum_congr rfl fun j _ => ?_
    rw [tallyAt_apply]
    by_cases h : peer d j = c ∧ -j = s
    · rw [if_pos ⟨by rw [h.1, h.2], rfl⟩, if_pos h]
    · rw [if_neg (fun h' => h ?_), if_neg h]
      have := (kcell_iff _ _ _ _).mp h'.1
      exact ⟨this.1.symm, by have h2 := this.2; simp at h2; exact h2.symm⟩
  · intro j _
    rw [tallyAt_apply]
    exact if_neg fun h' => by have := ((kcell_iff _ _ _ _).mp h'.1).2; simp at this

theorem count_bar (c : Dev nD) : (∑ d : Dev nD, ∑ j ∈ seven, if peer d j = c then 1 else 0) = 7 := by revert c; decide
theorem count_recv (c : Dev nD) (s : Fin 8) (h : s ≠ 0) : (∑ d : Dev nD, ∑ j ∈ seven, if peer d j = c ∧ -j = s then 1 else 0) = 1 := by
  revert c s; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]

theorem launch_recv (c : Dev nD) (s : Fin 8) (h : s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s]
  have : ∀ d : Dev nD, ∀ j ∈ seven, (if peer d j = c ∧ -j = s then N else 0) = N * (if peer d j = c ∧ -j = s then 1 else 0) := fun d j _ => by split <;> simp
  rw [Finset.sum_congr rfl fun d _ => Finset.sum_congr rfl (this d), Finset.sum_congr rfl fun d _ => (Finset.mul_sum _ _ _).symm, ← Finset.mul_sum, count_recv c s h, Nat.mul_one]

theorem recv_injOn : Set.InjOn (fun s : Fin 8 => (SemLoc.dma (recvS s) : SemLoc sig)) (seven : Finset (Fin 8)) := fun s _ s' _ h => by
  have : (some (.inr s) : CK) = some (.inr s') := csem_injective h
  simpa using this

omit [FloatOps F] in
theorem credit_recv (c : Dev nD) (s : Fin 8) (h : s ≠ 0) :
    (cred (tallyOn (recvCell c s) (launchCredit (Pipeline.owing O₀) 0 (recvCell c s))) : sProp 𝕄) ⊢ cred (tallyAt (recvCell c s) () N) := by
  rw [launch_recv c s h]

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := seven.image fun s : Fin 8 => (SemLoc.dma (recvS s) : SemLoc sig)) fun x hx => ?_).trans ?_
  · obtain ⟨s, -, rfl⟩ := Finset.mem_image.mp hx
    exact Finset.mem_erase.mpr ⟨fun h => (by cases h), Finset.mem_univ _⟩
  · rw [bigSep_image_of_injOn recv_injOn]
    exact bigSep_mono fun s hs => credit_recv c s (Finset.mem_Ioi.mp hs).ne'

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ whole c main_arg1 (m ((c : Thread nD τ).loc main_arg1))) := by
  rw [Pipeline.unscopedRestP_none, unscopedRest0_eq]
  iintro ⟨Hr, Hlev, Hcr, -, HG⟩
  ihave Hc := (creds (F := F) c) $$ Hcr
  imodintro
  unfold start G'
  isplitr [Hr]
  · isplitl [HG]; · iexact HG
    isplitl [Hc] <;> iassumption
  · iexact Hr

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ zeros c) from rfl, scopedRest0_eq, ownSems0_eq, unscopedSems0_eq]
  unfold scratch zeros
  iintro ⟨Hr, HzB, Hz⟩
  isplitl [HzB]; · iexact HzB
  isplitl [Hz] <;> iassumption

theorem stage_level : ∀ (c : Dev nD) (w : Fin 4) (s : Fin ((cfgs 0).win w).nbuf), lv ((c : Thread nD τ), SemLoc.dma (((cfgs 0).win w).sem s)) () = 0 := by
  decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_level c w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 16384 in
/-- From any memory with all counters at zero, every fair execution of the kernel on the eight devices ends, with each window's array at its computed
    contents, the argument no window reads unchanged, and all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun c => whole c main_arg1 (m ((c : Thread nD τ).loc main_arg1)))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hz, HSI⟩
      icombine HSI Hz gives %hz
      imod (Pipeline.unscopedSems0_read (X := unscopedSems0 c) (c := c) fupd_intro s') $$ [Hu HSI] with ⟨%hu, HSI⟩
      · isplitl [Hu] <;> iassumption
      imodintro
      isplitr
      · ipureintro
        exact ⟨hu, Buf.eq_of_forall_mem_univ hz⟩
      iexact HSI)
    (hQ := fun _ h hs => ⟨fun c => ⟨(h c).1, (h c).2.2.2⟩, sem_eq_zero hs fun c => (h c).2.2.1⟩)

/-- The first argument's array after the run holds what it held. -/
theorem finalA_x (c : Dev nD) : finalA m ρ c (0 : Fin 4) = (s₀ m ρ).mem (win0_0.arr.view.loc (c : Thread nD τ)) :=
  (dats (F := F) m ρ 0 c).arrAt_in (0 : Fin 4) rfl _
theorem finalA_i (c : Dev nD) : finalA m ρ c (1 : Fin 4) = (s₀ m ρ).mem (win0_1.arr.view.loc (c : Thread nD τ)) :=
  (dats (F := F) m ρ 0 c).arrAt_in (1 : Fin 4) rfl _
theorem finalA_w (c : Dev nD) : finalA m ρ c (2 : Fin 4) = (s₀ m ρ).mem (win0_2.arr.view.loc (c : Thread nD τ)) :=
  (dats (F := F) m ρ 0 c).arrAt_in (2 : Fin 4) rfl _

/-- The result's array after the run holds what device `c` computed. -/
theorem finalA_o (c : Dev nD) : finalA m ρ c (3 : Fin 4) = outAt m ρ c := by
  have h : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  exact (hr _).symm.trans h

/-- The device's copies of the arguments, as its body finds them, are the arguments. -/
theorem xAt_eq (c : Dev nD) : xAt m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem iAt_eq (c : Dev nD) : iAt m ρ c = m ((c : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _
theorem wtAt_eq (c : Dev nD) : wtAt m ρ c = m ((c : Thread nD τ).loc main_arg3) := by
  have hz : (fun a => (win0_2.index (0 : Fin 1)) a * main_arg3.ty.shape.size a) = fun _ => 0 := funext fun a => by fin_cases a <;> decide
  exact Memref.read_access_unit_zero (Elt F) main_arg3 hz (fun a => by fin_cases a <;> decide) _

/-- After the run every device's result holds `outAt` and every argument what it held; the counters are at zero. -/
theorem run_all : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => ⟨((h.1 c).1 (3 : Fin 4)).trans (finalA_o m ρ c), ((h.1 c).1 (0 : Fin 4)).trans (finalA_x m ρ c), (h.1 c).2,
    ((h.1 c).1 (1 : Fin 4)).trans (finalA_i m ρ c), ((h.1 c).1 (2 : Fin 4)).trans (finalA_w m ρ c)⟩, h.2⟩) (run_main m ρ)

/-- The same with the result's value dropped. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => (h.1 c).2, h.2⟩) (run_all m ρ)

end Cert.MoE

end
-- ==== Proof.Count.lean ====
/-
# Counting the tokens that chose an expert

`upto e j n` is how many of the first `n` tokens chose expert `j`, and `rank e t` is token `t`'s place among the tokens that chose
the same expert as it, counted from one. The kernel holds these numbers as floats; over the extended reals they are the casts of
the naturals. Also here: what the kernel's words and bits denote.
-/
module

public import proofs.«01_k».proof.Proof.Values
public import Idealize.ShloMosaic.Lib.Pointwise

@[expose] public section

set_option maxRecDepth 16384

noncomputable section

namespace Cert.MoE

open Idealize.ShloMosaic

/-! ## The counts -/

/-- How many of the first `n` tokens chose expert `j`. -/
def upto (e : ℕ → BitVec 32) (j : BitVec 32) (n : ℕ) : ℕ := ∑ i ∈ Finset.range n, if e i = j then 1 else 0

/-- Token `t`'s place, from one, among the tokens that chose its expert. -/
def rank (e : ℕ → BitVec 32) (t : ℕ) : ℕ := upto e (e t) (t + 1)

theorem upto_zero (e : ℕ → BitVec 32) (j : BitVec 32) : upto e j 0 = 0 := rfl

theorem upto_succ (e : ℕ → BitVec 32) (j : BitVec 32) (n : ℕ) : upto e j (n + 1) = upto e j n + if e n = j then 1 else 0 :=
  Finset.sum_range_succ _ _

theorem upto_add (e : ℕ → BitVec 32) (j : BitVec 32) (n k : ℕ) : upto e j (n + k) = upto e j n + ∑ i ∈ Finset.range k, if e (n + i) = j then 1 else 0 :=
  Finset.sum_range_add _ _ _

theorem upto_mono (e : ℕ → BitVec 32) (j : BitVec 32) {n k : ℕ} (h : n ≤ k) : upto e j n ≤ upto e j k := by
  obtain ⟨d, rfl⟩ := Nat.exists_eq_add_of_le h
  rw [upto_add]; exact Nat.le_add_right _ _

theorem upto_le (e : ℕ → BitVec 32) (j : BitVec 32) (n : ℕ) : upto e j n ≤ n := by
  induction n with
  | zero => exact le_rfl
  | succ n ih => rw [upto_succ]; split <;> omega

theorem rank_eq (e : ℕ → BitVec 32) (t : ℕ) : rank e t = upto e (e t) t + 1 := by
  unfold rank; rw [upto_succ, if_pos rfl]

/-- Two tokens of one expert have different ranks. -/
theorem rank_lt (e : ℕ → BitVec 32) {t u : ℕ} (h : e t = e u) (htu : t < u) : rank e t < rank e u := by
  rw [rank_eq e u, Nat.lt_succ_iff, ← h]
  exact upto_mono e _ htu

theorem rank_inj (e : ℕ → BitVec 32) {t u : ℕ} (h : e t = e u) (hr : rank e t = rank e u) : t = u := by
  rcases lt_trichotomy t u with h1 | h1 | h1
  · exact absurd hr (rank_lt e h h1).ne
  · exact h1
  · exact absurd hr (rank_lt e h.symm h1).ne'

/-! ## Numbers as extended reals -/

/-- A sum over `Fin n` of casts is the cast of the sum. -/
theorem sum_cast {n : ℕ} (f : ℕ → ℕ) : ∑ i : Fin n, ((f i.val : ℕ) : EReal) = ((∑ i ∈ Finset.range n, f i : ℕ) : EReal) := by
  rw [Finset.sum_range]
  exact (map_sum (Nat.castAddMonoidHom EReal) _ _).symm

theorem cast_ite (p : Prop) [Decidable p] : (((if p then 1 else 0 : ℕ)) : EReal) = if p then 1 else 0 := by split <;> simp

theorem cast_inj (a b : ℕ) : ((a : EReal) = (b : EReal)) ↔ a = b := by
  rw [← EReal.coe_natCast, ← EReal.coe_natCast, EReal.coe_eq_coe_iff, Nat.cast_inj]

theorem cast_le (a b : ℕ) : ((a : EReal) ≤ (b : EReal)) ↔ a ≤ b := by
  rw [← EReal.coe_natCast, ← EReal.coe_natCast, EReal.coe_le_coe_iff, Nat.cast_le]

theorem toInt_ofNat (n : ℕ) (h : n < 2 ^ 31) : (BitVec.ofNat 32 n).toInt = (n : ℤ) := by
  rw [BitVec.toInt_eq_toNat_of_lt] <;> rw [BitVec.toNat_ofNat] <;> omega

/-- A word that holds a small natural, as a float. -/
theorem word_float (φ : FTy) (n : ℕ) (h : n < 2 ^ 31) : (FloatOps.sitofp φ (BitVec.ofNat 32 n) : Ideal φ) = ((n : ℕ) : EReal) := by
  show (((BitVec.ofNat 32 n).toInt : ℝ) : EReal) = _
  rw [toInt_ofNat n h, ← EReal.coe_natCast]; norm_cast

/-- A bit widened to a word, as a float. -/
theorem bit_float (φ : FTy) (b : Bool) : (FloatOps.sitofp φ (BitVec.setWidth 32 (BitVec.ofBool b)) : Ideal φ) = if b then 1 else 0 := by
  cases b
  · exact (word_float φ 0 (by decide)).trans (by simp)
  · exact (word_float φ 1 (by decide)).trans (by simp)

theorem ofBits_25 : Ideal.ofBits .f32 0x41C80000#32 = ((25 : ℕ) : EReal) := by
  rw [← EReal.coe_natCast]
  simp [Ideal.ofBits, Ideal.ieee, -EReal.coe_mul]; norm_num

theorem ofBits_64 : Ideal.ofBits .f32 0x42800000#32 = ((64 : ℕ) : EReal) := by
  rw [← EReal.coe_natCast]
  simp [Ideal.ofBits, Ideal.ieee, -EReal.coe_mul]; norm_num

theorem cmp_eq (a b : BitVec 32) : IntOp.cmpi .eq a b = BitVec.ofBool (decide (a = b)) := rfl

theorem and_bool (a b : Bool) : IntOp.andi (BitVec.ofBool a) (BitVec.ofBool b) = BitVec.ofBool (a && b) := by
  cases a <;> cases b <;> rfl

/-- Signed order of two small naturals' words. -/
theorem cmp_sge (a b : ℕ) (ha : a < 2 ^ 31) (hb : b < 2 ^ 31) : IntOp.cmpi .sge (BitVec.ofNat 32 a) (BitVec.ofNat 32 b) = BitVec.ofBool (decide (b ≤ a)) := by
  show BitVec.ofBool ((BitVec.ofNat 32 b).sle (BitVec.ofNat 32 a)) = _
  simp only [BitVec.sle, toInt_ofNat a ha, toInt_ofNat b hb, Nat.cast_le]

/-- Strict signed order of two small naturals' words. -/
theorem cmp_slt (a b : ℕ) (ha : a < 2 ^ 31) (hb : b < 2 ^ 31) : IntOp.cmpi .slt (BitVec.ofNat 32 a) (BitVec.ofNat 32 b) = BitVec.ofBool (decide (a < b)) := by
  show BitVec.ofBool ((BitVec.ofNat 32 a).slt (BitVec.ofNat 32 b)) = _
  simp only [BitVec.slt, toInt_ofNat a ha, toInt_ofNat b hb, Nat.cast_lt]

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

end Cert.MoE

end
-- ==== Proof.Rank.lean ====
/-
# The kernel's ranks and its table of slots, over the extended reals

The kernel's running counts are the casts of `upto`, its ranks of `rank`, and the table `gt` holds a one exactly where a token is
seated in a slot: slot `26 k + p` of device `c` belongs to expert `4 c + k` and to the token of rank `p + 1`, up to rank 25.
-/
module

public import proofs.«01_k».proof.Proof.Count

@[expose] public section

set_option maxRecDepth 16384

noncomputable section

namespace Cert.MoE

open Cert.KernelIdeal Cert.KernelIdeal.Gen
open Idealize.ShloMosaic

/-- The expert token `t` chose. -/
def tok (r : Vec Ideal S1024x1 .i32) (t : ℕ) : BitVec 32 := if h : t < 1024 then r (ix2 ⟨t, h⟩ 0) else 0

theorem tok_fin (r : Vec Ideal S1024x1 .i32) (t : Fin 1024) : tok r t.val = r (ix2 t 0) := dif_pos t.isLt

/-- The choice table: one where the token chose the expert. -/
theorem choice_at (r : Vec Ideal S1024x1 .i32) (t : Fin 1024) (j : Fin 32) :
    k0_pay3 r (ix2 t j) = (((if tok r t.val = BitVec.ofNat 32 j.val then 1 else 0 : ℕ)) : EReal) := by
  pointwise [k0_pay1, k0_pay2, k0_pay3]
  rw [cmp_eq, bit_float, cast_ite, tok_fin]
  simp only [decide_eq_true_eq]

theorem block_at (r : Vec Ideal S1024x1 .i32) (n : ℕ) (h : n < 8) (p : Fin 128) (j : Fin 32) :
    ohBlk r n h (ix2 p j) = (((if tok r (128 * n + p.val) = BitVec.ofNat 32 j.val then 1 else 0 : ℕ)) : EReal) := by
  pointwise [ohBlk]
  exact choice_at r _ j

/-- The triangle of ones. -/
theorem tri_at (p q : Fin 128) : k0_pay4 (F := Ideal) (ix2 p q) = (((if q.val ≤ p.val then 1 else 0 : ℕ)) : EReal) := by
  pointwise [k0_pay4]
  rw [cmp_sge _ _ (by omega) (by omega), bit_float, cast_ite]
  simp only [decide_eq_true_eq]

theorem slot_at (q : Fin 26) : k0_pay5 (F := Ideal) (ix2 0 q) = ((q.val : ℕ) : EReal) := by
  pointwise [k0_pay5]
  exact word_float _ _ (by omega)

theorem start_at (j : Fin 32) : k0_pay6 (F := Ideal) (ix2 0 j) = 0 := by
  pointwise [k0_pay6]

theorem carry_at (f : FVec Ideal S1x32 .f32) (g : FVec Ideal S128x32 .bf16) (j : Fin 32) :
    k0_pay17 f g (ix2 0 j) = f (ix2 0 j) + ∑ p : Fin 128, g (ix2 p j) := by
  pointwise [k0_pay17]

/-- The count carried into block `n`. -/
theorem pfx_at (r : Vec Ideal S1024x1 .i32) (j : Fin 32) : ∀ (n : ℕ) (h : n < 8),
    pfx r n h (ix2 0 j) = ((upto (tok r) (BitVec.ofNat 32 j.val) (128 * n) : ℕ) : EReal)
  | 0, _ => (start_at j).trans (by simp [upto_zero])
  | n + 1, h => by
    rw [pfx, carry_at, pfx_at r j n, Finset.sum_congr rfl fun p _ => block_at r n _ p j,
      sum_cast fun i => if tok r (128 * n + i) = BitVec.ofNat 32 j.val then 1 else 0, Nat.mul_succ, upto_add, Nat.cast_add]

/-- A sum over the tokens up to and with `p` of a block. -/
theorem sum_upto (f : ℕ → ℕ) (p : Fin 128) : ∑ q ∈ Finset.range 128, (if q ≤ p.val then 1 else 0) * f q = ∑ q ∈ Finset.range (p.val + 1), f q := by
  rw [← Finset.sum_subset (Finset.range_subset_range.2 (by omega : p.val + 1 ≤ 128))
    (fun q _ hq => by rw [if_neg (by simpa using hq), Nat.zero_mul])]
  exact Finset.sum_congr rfl fun q hq => by rw [if_pos (Nat.lt_succ_iff.1 (Finset.mem_range.1 hq)), Nat.one_mul]

/-- The inclusive count at row `p` of block `n`. -/
theorem cnt_at (r : Vec Ideal S1024x1 .i32) (n : ℕ) (h : n < 8) (p : Fin 128) (j : Fin 32) :
    cnt r n h (ix2 p j) = ((upto (tok r) (BitVec.ofNat 32 j.val) (128 * n + p.val + 1) : ℕ) : EReal) := by
  have hsum : ∑ q : Fin 128, k0_pay4 (F := Ideal) (ix2 p q) * ohBlk r n h (ix2 q j)
      = ((∑ q ∈ Finset.range (p.val + 1), (if tok r (128 * n + q) = BitVec.ofNat 32 j.val then 1 else 0) : ℕ) : EReal) := by
    rw [← sum_upto (fun q => if tok r (128 * n + q) = BitVec.ofNat 32 j.val then 1 else 0) p, ← sum_cast]
    exact Finset.sum_congr rfl fun q _ => by rw [tri_at, block_at]; push_cast; rfl
  have hc : cnt r n h (ix2 p j) = ∑ q : Fin 128, k0_pay4 (F := Ideal) (ix2 p q) * ohBlk r n h (ix2 q j) + pfx r n h (ix2 0 j) := by
    pointwise [cnt]
  rw [hc, hsum, pfx_at, Nat.add_assoc, upto_add, Nat.cast_add, add_comm]

/-- The kernel's rank of a token: its rank, or zero where the token chose no expert. -/
theorem rnk_at (r : Vec Ideal S1024x1 .i32) (n : ℕ) (h : n < 8) (p : Fin 128) (j : Fin 32)
    (hj : tok r (128 * n + p.val) = BitVec.ofNat 32 j.val) :
    rnk r n h (ix2 p 0) = ((rank (tok r) (128 * n + p.val) : ℕ) : EReal) := by
  have hr : rnk r n h (ix2 p 0)
      = ∑ x : Fin 32, Scalar.select (k0_pay2 r (ix2 ⟨128 * n + p.val, by omega⟩ x)) (cnt r n h (ix2 p x)) (0 : Ideal .f32) := by
    pointwise [rnk]
  have hb (x : Fin 32) : k0_pay2 r (ix2 ⟨128 * n + p.val, by omega⟩ x) = BitVec.ofBool (decide (j = x)) := by
    pointwise [k0_pay1, k0_pay2]
    show IntOp.cmpi .eq (r (ix2 (⟨128 * n + p.val, by omega⟩ : Fin 1024) 0)) (BitVec.ofNat 32 x.val) = _
    rw [cmp_eq, ← tok_fin r ⟨128 * n + p.val, by omega⟩, hj]
    congr 1
    rw [decide_eq_decide, ofNat_inj (by omega) (by omega), Fin.ext_iff]
  rw [hr, Finset.sum_eq_single j]
  · rw [hb, cnt_at]; simp [Scalar.select, rank, hj]
  · intro x _ hx
    rw [hb]; simp [Scalar.select, hx.symm]
  · intro hx; exact absurd (Finset.mem_univ j) hx

/-- Token `t` is seated in slot `s` of device `c`. -/
def seat (e : ℕ → BitVec 32) (c s t : ℕ) : Prop := e t = BitVec.ofNat 32 (4 * c + s / 26) ∧ rank e t ≤ 25 ∧ rank e t = s % 26 + 1

instance (e : ℕ → BitVec 32) (c s t : ℕ) : Decidable (seat e c s t) := by unfold seat; infer_instance

/-- A slot seats at most one token. -/
theorem seat_inj {e : ℕ → BitVec 32} {c s t u : ℕ} (h : seat e c s t) (h' : seat e c s u) : t = u :=
  rank_inj e (h.1.trans h'.1.symm) (h.2.2.trans h'.2.2.symm)

theorem sel_at (r : Vec Ideal S1024x1 .i32) (v : BitVec 32) (n : ℕ) (h : n < 8) (k : ℕ) (p : Fin 128) :
    sel v r n h k (ix2 p 0) = IntOp.andi (BitVec.ofBool (decide (rnk r n h (ix2 p 0) ≤ ((25 : ℕ) : EReal))))
      (BitVec.ofBool (decide (tok r (128 * n + p.val) = v * 4#32 + BitVec.ofNat 32 k))) := by
  pointwise [sel, low, rid, k0_pay1]
  rw [← ofBits_25, tok, dif_pos (by omega : 128 * n + p.val < 1024)]
  rfl

theorem hit_at (a : FVec Ideal S1x26 .f32) (f : FVec Ideal S128x1 .f32) (g : IVec S128x1 1) (p : Fin 128) (j : Fin 26) :
    (k0_pay12 a f g (ix2 p j) : EReal) = FloatOps.sitofp (F := Ideal) .f32 (BitVec.setWidth 32 (IntOp.andi (g (ix2 p 0))
      (BitVec.ofBool (decide (f (ix2 p 0) = a (ix2 0 j) + 1))))) := by
  pointwise [k0_pay12]

theorem expert_word (c k : ℕ) : BitVec.ofNat 32 c * 4#32 + BitVec.ofNat 32 k = BitVec.ofNat 32 (4 * c + k) := by
  rw [BitVec.ofNat_add, Nat.mul_comm, BitVec.ofNat_mul]

/-- One entry of the table's blocks. -/
theorem gtBlk_at (r : Vec Ideal S1024x1 .i32) (c : ℕ) (hc : c < 8) (n : ℕ) (h : n < 8) (k : ℕ) (hk : k < 4) (p : Fin 128) (q : Fin 26) :
    gtBlk (BitVec.ofNat 32 c) r n h k (ix2 p q) = if seat (tok r) c (26 * k + q.val) (128 * n + p.val) then (1 : EReal) else 0 := by
  have h1 : (26 * k + q.val) / 26 = k := by omega
  have h2 : (26 * k + q.val) % 26 = q.val := by omega
  rw [gtBlk, hit_at, sel_at, slot_at, and_bool, and_bool, bit_float, expert_word]
  by_cases he : tok r (128 * n + p.val) = BitVec.ofNat 32 (4 * c + k)
  · rw [rnk_at r n h p ⟨4 * c + k, by omega⟩ he]
    have h3 : (((q.val : ℕ) : EReal) + 1) = ((q.val + 1 : ℕ) : EReal) := by push_cast; rfl
    simp only [h3, cast_le, cast_inj, seat, h1, h2, he, Bool.and_eq_true, decide_eq_true_eq, true_and, and_true]
  · simp [seat, h1, h2, he]

/-- The table: a one exactly where the token is seated in the slot. -/
theorem gt_at (r : Vec Ideal S1024x1 .i32) (c : ℕ) (hc : c < 8) (t : Fin 1024) (s : Fin 104) :
    gt (BitVec.ofNat 32 c) r (ix2 t s) = if seat (tok r) c s.val t.val then (1 : EReal) else 0 := by
  have ht : 128 * (t.val / 128) + t.val % 128 = t.val := by omega
  have hs : 26 * (s.val / 26) + s.val % 26 = s.val := by omega
  have h := gtBlk_at r c hc (t.val / 128) (by omega) (s.val / 26) (by omega) ⟨t.val % 128, by omega⟩ ⟨s.val % 26, by omega⟩
  simp only [ht, hs] at h
  rw [← h, gt, ← ix2_eq_valueIdx]
  rfl

end Cert.MoE

end
-- ==== Proof.Slots.lean ====
/-
# The rows a device computes for its slots, and the message that carries them

A slot that seats token `t` holds the row of `t` times its expert's weights, and the number `t`; a slot that seats nobody holds a
row of zeros. The token numbers travel as two rows, the number's quotient by 64 and its remainder, and are put together again by
the device that reads them.
-/
module

public import proofs.«01_k».proof.Proof.Rank

@[expose] public section

set_option maxRecDepth 16384

noncomputable section

namespace Cert.MoE

open Cert.KernelIdeal Cert.KernelIdeal.Gen
open Idealize.ShloMosaic

/-! ## Sums over the table's columns -/

/-- `g` is the table of the device's slots, `e` the tokens' experts and `c` the device. -/
def Seats (e : ℕ → BitVec 32) (c : ℕ) (g : Vec Ideal S1024x104 .bf16) : Prop :=
  ∀ (t : Fin 1024) (s : Fin 104), g (ix2 t s) = if seat e c s.val t.val then (1 : EReal) else 0

variable {e : ℕ → BitVec 32} {c : ℕ} {g : Vec Ideal S1024x104 .bf16}

/-- A column that seats token `t` picks out the value at `t`. -/
theorem column_seat (hg : Seats e c g) {s : Fin 104} {t : Fin 1024} (hs : seat e c s.val t.val) (v : Fin 1024 → EReal) :
    ∑ u : Fin 1024, (g (ix2 u s) : EReal) * v u = v t := by
  rw [Finset.sum_eq_single t]
  · rw [hg, if_pos hs, one_mul]
  · intro u _ hu
    rw [hg, if_neg fun h => hu (Fin.ext (seat_inj h hs)), zero_mul]
  · intro h; exact absurd (Finset.mem_univ t) h

/-- A column that seats nobody sums to zero. -/
theorem column_none (hg : Seats e c g) {s : Fin 104} (hs : ∀ t : Fin 1024, ¬ seat e c s.val t.val) (v : Fin 1024 → EReal) :
    ∑ u : Fin 1024, (g (ix2 u s) : EReal) * v u = 0 :=
  Finset.sum_eq_zero fun u _ => by rw [hg, if_neg (hs u), zero_mul]

/-! ## Rows and token numbers of the slots -/

/-- The row of slot `s`, as the kernel computes it: the gathered row times the slot's expert. -/
def comp (g : Vec Ideal S1024x104 .bf16) (x : Vec Ideal S1024x256 .bf16) (w : Vec Ideal S4x256x512 .bf16) (s : Fin 104) (f : Fin 512) : EReal :=
  ∑ d : Fin 256, k0_pay96 g x (ix2 s d) * w (ix3 ⟨s.val / 26, by omega⟩ d f)

/-- Token `t`'s row times the device's expert `k`. -/
def prod (x : Vec Ideal S1024x256 .bf16) (w : Vec Ideal S4x256x512 .bf16) (t : Fin 1024) (k : Fin 4) (f : Fin 512) : EReal :=
  ∑ d : Fin 256, (x (ix2 t d) : EReal) * w (ix3 k d f)

theorem gather_at (g : Vec Ideal S1024x104 .bf16) (x : Vec Ideal S1024x256 .bf16) (s : Fin 104) (d : Fin 256) :
    (k0_pay96 g x (ix2 s d) : EReal) = ∑ t : Fin 1024, (g (ix2 t s) : EReal) * x (ix2 t d) := by
  pointwise [k0_pay96]

theorem comp_seat (hg : Seats e c g) (x : Vec Ideal S1024x256 .bf16) (w : Vec Ideal S4x256x512 .bf16) {s : Fin 104} {t : Fin 1024}
    (hs : seat e c s.val t.val) (f : Fin 512) : comp g x w s f = prod x w t ⟨s.val / 26, by omega⟩ f :=
  Finset.sum_congr rfl fun d _ => by rw [gather_at, column_seat hg hs fun u => x (ix2 u d)]

theorem comp_none (hg : Seats e c g) (x : Vec Ideal S1024x256 .bf16) (w : Vec Ideal S4x256x512 .bf16) {s : Fin 104}
    (hs : ∀ t : Fin 1024, ¬ seat e c s.val t.val) (f : Fin 512) : comp g x w s f = 0 :=
  Finset.sum_eq_zero fun d _ => by rw [gather_at, column_none hg hs fun u => x (ix2 u d), zero_mul]

theorem number_at (g : Vec Ideal S1024x104 .bf16) (s : Fin 104) :
    (k0_pay102 g (ix2 0 s) : EReal) = ∑ t : Fin 1024, (g (ix2 t s) : EReal) * ((t.val : ℕ) : EReal) := by
  have h : (k0_pay102 g (ix2 0 s) : EReal) = ∑ t : Fin 1024, (g (ix2 t s) : EReal) * FloatOps.sitofp (F := Ideal) .f32 (BitVec.ofNat 32 t.val) := by
    pointwise [k0_pay102]
  rw [h]
  exact Finset.sum_congr rfl fun t _ => by rw [word_float _ _ (by omega)]

theorem number_seat (hg : Seats e c g) {s : Fin 104} {t : Fin 1024} (hs : seat e c s.val t.val) :
    (k0_pay102 g (ix2 0 s) : EReal) = ((t.val : ℕ) : EReal) := by
  rw [number_at, column_seat hg hs fun u => ((u.val : ℕ) : EReal)]

/-- What slot `s` of device `c` adds to token `t`'s result: the token's product where the slot seats it. -/
def part (e : ℕ → BitVec 32) (c : ℕ) (x : Vec Ideal S1024x256 .bf16) (w : Vec Ideal S4x256x512 .bf16) (t : Fin 1024) (f : Fin 512) (s : Fin 104) : EReal :=
  if seat e c s.val t.val then prod x w t ⟨s.val / 26, by omega⟩ f else 0

/-- A slot's row, added where a token's number is `i`, comes to `part` once `i` is the seated token's number. -/
theorem part_eq (hg : Seats e c g) (x : Vec Ideal S1024x256 .bf16) (w : Vec Ideal S4x256x512 .bf16) (t : Fin 1024) (f : Fin 512) (s : Fin 104)
    (i : EReal) (hi : ∀ u : Fin 1024, seat e c s.val u.val → i = ((u.val : ℕ) : EReal)) :
    (if ((t.val : ℕ) : EReal) = i then (1 : EReal) else 0) * comp g x w s f = part e c x w t f s := by
  by_cases h : ∃ u : Fin 1024, seat e c s.val u.val
  · obtain ⟨u, hu⟩ := h
    rw [hi u hu, comp_seat hg x w hu, part]
    by_cases htu : t = u
    · subst htu; rw [if_pos rfl, if_pos hu, one_mul]
    · rw [if_neg fun h => htu (Fin.ext ((cast_inj _ _).1 h)), if_neg fun h => htu (Fin.ext (seat_inj h hu)), zero_mul]
  · have h' : ∀ u : Fin 1024, ¬ seat e c s.val u.val := fun u hu => h ⟨u, hu⟩
    rw [comp_none hg x w h', part, if_neg (h' t), mul_zero]

/-! ## The printed rows -/

theorem weights_at (w : Vec Ideal S4x256x512 .bf16) (k : Fin 4) (d : Fin 256) (f : Fin 512) : wAt w k (ix3 0 d f) = w (ix3 k d f) := by
  show w (ValueIdx.ix3 k d f) = _
  rw [← ix3_eq_valueIdx]

/-- The expert of a slot, given by its number. -/
theorem weights_of (w : Vec Ideal S4x256x512 .bf16) (k : Fin 4) (s : Fin 104) (h : k.val = s.val / 26) (d : Fin 256) (f : Fin 512) :
    wAt w k (ix3 0 d f) = w (ix3 ⟨s.val / 26, by omega⟩ d f) := by
  rw [weights_at]
  exact congrArg (fun k => w (ix3 k d f)) (Fin.ext h)

theorem ck0_at (g : Vec Ideal S1024x104 .bf16) (x : Vec Ideal S1024x256 .bf16) (w : Vec Ideal S4x256x512 .bf16) (s : Fin 26) (f : Fin 512) :
    (ck0 g x w (ix2 s f) : EReal) = comp g x w ⟨s.val, by omega⟩ f := by
  have h : (ck0 g x w (ix2 s f) : EReal) = ∑ d : Fin 256, k0_pay96 g x (ix2 ⟨s.val, by omega⟩ d) * wAt w 0 (ix3 0 d f) := by
    pointwise [ck0, k0_pay97]
  rw [h, comp]
  exact Finset.sum_congr rfl fun d _ => by rw [weights_of w 0 ⟨s.val, by omega⟩ (by show 0 = (s.val) / 26; omega)]

theorem ck1_at (g : Vec Ideal S1024x104 .bf16) (x : Vec Ideal S1024x256 .bf16) (w : Vec Ideal S4x256x512 .bf16) (s : Fin 26) (f : Fin 512) :
    (ck1 g x w (ix2 s f) : EReal) = comp g x w ⟨26 + s.val, by omega⟩ f := by
  have h : (ck1 g x w (ix2 s f) : EReal) = ∑ d : Fin 256, k0_pay96 g x (ix2 ⟨26 + s.val, by omega⟩ d) * wAt w 1 (ix3 0 d f) := by
    pointwise [ck1, k0_pay98]
  rw [h, comp]
  exact Finset.sum_congr rfl fun d _ => by rw [weights_of w 1 ⟨26 + s.val, by omega⟩ (by show 1 = (26 + s.val) / 26; omega)]

theorem ck2_at (g : Vec Ideal S1024x104 .bf16) (x : Vec Ideal S1024x256 .bf16) (w : Vec Ideal S4x256x512 .bf16) (s : Fin 26) (f : Fin 512) :
    (ck2 g x w (ix2 s f) : EReal) = comp g x w ⟨52 + s.val, by omega⟩ f := by
  have h : (ck2 g x w (ix2 s f) : EReal) = ∑ d : Fin 256, k0_pay96 g x (ix2 ⟨52 + s.val, by omega⟩ d) * wAt w 2 (ix3 0 d f) := by
    pointwise [ck2, k0_pay99]
  rw [h, comp]
  exact Finset.sum_congr rfl fun d _ => by rw [weights_of w 2 ⟨52 + s.val, by omega⟩ (by show 2 = (52 + s.val) / 26; omega)]

theorem ck3_at (g : Vec Ideal S1024x104 .bf16) (x : Vec Ideal S1024x256 .bf16) (w : Vec Ideal S4x256x512 .bf16) (s : Fin 26) (f : Fin 512) :
    (ck3 g x w (ix2 s f) : EReal) = comp g x w ⟨78 + s.val, by omega⟩ f := by
  have h : (ck3 g x w (ix2 s f) : EReal) = ∑ d : Fin 256, k0_pay96 g x (ix2 ⟨78 + s.val, by omega⟩ d) * wAt w 3 (ix3 0 d f) := by
    pointwise [ck3, k0_pay101, k0_pay100]
  rw [h, comp]
  exact Finset.sum_congr rfl fun d _ => by rw [weights_of w 3 ⟨78 + s.val, by omega⟩ (by show 3 = (78 + s.val) / 26; omega)]

/-- The four experts' rows one under the other. -/
theorem stack_at (g : Vec Ideal S1024x104 .bf16) (x : Vec Ideal S1024x256 .bf16) (w : Vec Ideal S4x256x512 .bf16) (s : Fin 104) (f : Fin 512) :
    (if h : s.val < 26 then (ck0 g x w (ix2 ⟨s.val, h⟩ f) : EReal)
      else if h : s.val - 26 < 26 then ck1 g x w (ix2 ⟨s.val - 26, h⟩ f)
      else if h : s.val - 26 - 26 < 26 then ck2 g x w (ix2 ⟨s.val - 26 - 26, h⟩ f)
      else ck3 g x w (ix2 ⟨s.val - 26 - 26 - 26, by omega⟩ f)) = comp g x w s f := by
  split
  · exact ck0_at ..
  split
  · rw [ck1_at]; exact congrArg (comp g x w · f) (Fin.ext (by show 26 + (s.val - 26) = s.val; omega))
  split
  · rw [ck2_at]; exact congrArg (comp g x w · f) (Fin.ext (by show 52 + (s.val - 26 - 26) = s.val; omega))
  · rw [ck3_at]; exact congrArg (comp g x w · f) (Fin.ext (by show 78 + (s.val - 26 - 26 - 26) = s.val; omega))

/-! ## The message -/

/-- The message's first 104 rows are the slots' rows. -/
theorem msg_row (v : BitVec 32) (x : Vec Ideal S1024x256 .bf16) (r : Vec Ideal S1024x1 .i32) (w : Vec Ideal S4x256x512 .bf16) (s : Fin 104) (f : Fin 512) :
    (msg v x r w (ix2 ⟨s.val, by omega⟩ f) : EReal) = comp (gt v r) x w s f := by
  rw [← stack_at]
  have h4 : ¬ s.val - 26 - 26 < 26 → s.val - 26 - 26 - 26 < 26 := by omega
  pointwise [msg, k0_pay103]
  split; · rfl
  split; · rfl
  split; · rfl
  rename_i h; rw [dif_pos (h4 h)]; rfl

/-- Its next row holds the token numbers' quotients by 64 … -/
theorem msg_hi (v : BitVec 32) (x : Vec Ideal S1024x256 .bf16) (r : Vec Ideal S1024x1 .i32) (w : Vec Ideal S4x256x512 .bf16) (s : Fin 104) :
    (msg v x r w (ix2 104 ⟨s.val, by omega⟩) : EReal)
      = Ideal.liftRound Int.floor (Ideal.div (k0_pay102 (gt v r) (ix2 0 s)) (Ideal.ofBits .f32 0x42800000#32)) := by
  pointwise [msg, k0_pay103]

/-- … and the one after it their remainders. -/
theorem msg_lo (v : BitVec 32) (x : Vec Ideal S1024x256 .bf16) (r : Vec Ideal S1024x1 .i32) (w : Vec Ideal S4x256x512 .bf16) (s : Fin 104) :
    (msg v x r w (ix2 105 ⟨s.val, by omega⟩) : EReal)
      = k0_pay102 (gt v r) (ix2 0 s) - Ideal.ofBits .f32 0x42800000#32
        * Ideal.liftRound Int.floor (Ideal.div (k0_pay102 (gt v r) (ix2 0 s)) (Ideal.ofBits .f32 0x42800000#32)) := by
  pointwise [msg, k0_pay103]

/-- Quotient and remainder by 64 give the number back. -/
theorem hi_lo (n : ℕ) : Ideal.liftRound Int.floor (Ideal.div ((n : ℕ) : EReal) (Ideal.ofBits .f32 0x42800000#32)) * Ideal.ofBits .f32 0x42800000#32
      + (((n : ℕ) : EReal) - Ideal.ofBits .f32 0x42800000#32
        * Ideal.liftRound Int.floor (Ideal.div ((n : ℕ) : EReal) (Ideal.ofBits .f32 0x42800000#32))) = ((n : ℕ) : EReal) := by
  rw [ofBits_64, ← EReal.coe_natCast, ← EReal.coe_natCast, Ideal.div_coe (by norm_num), ← EReal.coe_mul]
  generalize ((n : ℕ) : ℝ) * (1 / ((64 : ℕ) : ℝ)) = q
  show ((⌊q⌋ : ℝ) : EReal) * _ + (_ - _ * ((⌊q⌋ : ℝ) : EReal)) = _
  rw [← EReal.coe_mul, ← EReal.coe_mul, ← EReal.coe_sub, ← EReal.coe_add]
  congr 1; ring

end Cert.MoE

end
-- ==== Proof.Scatter.lean ====
/-
# A device's result, token by token

A device adds its own slots' rows and those of the seven messages to the tokens the slots seat. What comes from one device is the sum
of its slots' parts, so the result is a sum of eight such sums.
-/
module

public import proofs.«01_k».proof.Proof.Slots

@[expose] public section

set_option maxRecDepth 16384

noncomputable section

namespace Cert.MoE

open Cert.KernelIdeal Cert.KernelIdeal.Gen
open Idealize.ShloMosaic

/-- What device `c` adds to token `t`'s result. -/
def share (e : ℕ → BitVec 32) (c : ℕ) (x : Vec Ideal S1024x256 .bf16) (w : Vec Ideal S4x256x512 .bf16) (t : Fin 1024) (f : Fin 512) : EReal :=
  ∑ s : Fin 104, part e c x w t f s

/-- What a message adds to token `t`'s result: the rows whose number is the token's. -/
def send (M : Vec Ideal S1x112x512 .bf16) (t : Fin 1024) (f : Fin 512) : EReal :=
  ∑ s : Fin 104, (if ((t.val : ℕ) : EReal) = (M (ix3 0 104 ⟨s.val, by omega⟩) : EReal) * Ideal.ofBits .f32 0x42800000#32 + M (ix3 0 105 ⟨s.val, by omega⟩)
    then (1 : EReal) else 0) * M (ix3 0 ⟨s.val, by omega⟩ f)

/-- One slot's addend as the kernel computes it, from the bit of a comparison. -/
theorem bit_times (t : Fin 1024) (i y : EReal) :
    (FloatOps.sitofp (F := Ideal) .f32 (BitVec.setWidth 32 (BitVec.ofBool (decide (FloatOps.sitofp (F := Ideal) .f32 (BitVec.ofNat 32 t.val) = i)))) : EReal) * y
      = (if ((t.val : ℕ) : EReal) = i then (1 : EReal) else 0) * y := by
  rw [bit_float, word_float _ _ (by omega)]
  simp only [decide_eq_true_eq]

/-! ## The seven additions -/

theorem add7_at (g : Vec Ideal S1024x104 .bf16) (x : Vec Ideal S1024x256 .bf16) (w : Vec Ideal S4x256x512 .bf16) (M : Vec Ideal S1x112x512 .bf16)
    (t : Fin 1024) (f : Fin 512) :
    (k0_pay105 (ck0 g x w) (ck1 g x w) (ck2 g x w) (ck3 g x w) (k0_pay102 g) M (ix2 t f) : EReal)
      = ∑ s : Fin 104, (if ((t.val : ℕ) : EReal) = k0_pay102 g (ix2 0 s) then (1 : EReal) else 0) * comp g x w s f + send M t f := by
  simp only [send, ← bit_times, ← stack_at]
  pointwise [k0_pay105, k0_pay104, k0_pay108]

theorem add6_at (a : FVec Ideal S1024x512 .f32) (M : Vec Ideal S1x112x512 .bf16) (t : Fin 1024) (f : Fin 512) :
    (k0_pay106 k0_pay104 a M (ix2 t f) : EReal) = a (ix2 t f) + send M t f := by
  simp only [send, ← bit_times]
  pointwise [k0_pay106, k0_pay104]

theorem add5_at (a : FVec Ideal S1024x512 .f32) (M : Vec Ideal S1x112x512 .bf16) (t : Fin 1024) (f : Fin 512) :
    (k0_pay107 k0_pay104 a M (ix2 t f) : EReal) = a (ix2 t f) + send M t f := by
  simp only [send, ← bit_times]
  pointwise [k0_pay107, k0_pay104]

theorem add43_at (a : FVec Ideal S1024x512 .f32) (M N : Vec Ideal S1x112x512 .bf16) (t : Fin 1024) (f : Fin 512) :
    (k0_pay111 k0_pay104 a (k0_pay109 N) (k0_pay110 k0_pay104 N) M (ix2 t f) : EReal) = a (ix2 t f) + send N t f + send M t f := by
  simp only [send, ← bit_times]
  pointwise [k0_pay111, k0_pay109, k0_pay110, k0_pay108, k0_pay104]

theorem add2_at (a : FVec Ideal S1024x512 .f32) (M : Vec Ideal S1x112x512 .bf16) (t : Fin 1024) (f : Fin 512) :
    (k0_pay112 k0_pay104 a M (ix2 t f) : EReal) = a (ix2 t f) + send M t f := by
  simp only [send, ← bit_times]
  pointwise [k0_pay112, k0_pay104]

theorem add1_at (a : FVec Ideal S1024x512 .f32) (M : Vec Ideal S1x112x512 .bf16) (t : Fin 1024) (f : Fin 512) :
    (k0_pay116 k0_pay104 a (k0_pay114 M) (k0_pay115 M) (ix2 t f) : EReal) = a (ix2 t f) + send M t f := by
  simp only [send, ← bit_times]
  pointwise [k0_pay116, k0_pay114, k0_pay115, k0_pay113, k0_pay104]

/-! ## Shares -/

/-- A device's message adds its share to a token's result. -/
theorem send_msg (c : ℕ) (hc : c < 8) (x : Vec Ideal S1024x256 .bf16) (r : Vec Ideal S1024x1 .i32) (w : Vec Ideal S4x256x512 .bf16) (t : Fin 1024) (f : Fin 512) :
    send (slab (msg (BitVec.ofNat 32 c) x r w)) t f = share (tok r) c x w t f := by
  have hg : Seats (tok r) c (gt (BitVec.ofNat 32 c) r) := gt_at r c hc
  have hslab (a : Fin 112) (b : Fin 512) : slab (msg (BitVec.ofNat 32 c) x r w) (ix3 0 a b) = msg (BitVec.ofNat 32 c) x r w (ix2 a b) := by
    show msg (BitVec.ofNat 32 c) x r w (ValueIdx.ix2 a b) = _
    rw [← ix2_eq_valueIdx]
  refine Finset.sum_congr rfl fun s _ => ?_
  rw [hslab, hslab, hslab, msg_hi, msg_lo, msg_row]
  exact part_eq hg x w t f s _ fun u hu => by rw [number_seat hg hu, hi_lo]

/-- A device's own slots add its share. -/
theorem own_share (c : ℕ) (hc : c < 8) (x : Vec Ideal S1024x256 .bf16) (r : Vec Ideal S1024x1 .i32) (w : Vec Ideal S4x256x512 .bf16) (t : Fin 1024) (f : Fin 512) :
    ∑ s : Fin 104, (if ((t.val : ℕ) : EReal) = k0_pay102 (gt (BitVec.ofNat 32 c) r) (ix2 0 s) then (1 : EReal) else 0)
      * comp (gt (BitVec.ofNat 32 c) r) x w s f = share (tok r) c x w t f :=
  Finset.sum_congr rfl fun s _ => part_eq (gt_at r c hc) x w t f s _ fun _ hu => number_seat (gt_at r c hc) hu

/-- The result of device `c`, at one element. -/
theorem out_at (c : ℕ) (hc : c < 8) (x : Vec Ideal S1024x256 .bf16) (r : Vec Ideal S1024x1 .i32) (w : Vec Ideal S4x256x512 .bf16)
    (M : ℕ → Vec Ideal S1x112x512 .bf16) (t : Fin 1024) (f : Fin 512) :
    (out (gt (BitVec.ofNat 32 c) r) x w M (ix2 t f) : EReal)
      = share (tok r) c x w t f + send (M 7) t f + send (M 6) t f + send (M 5) t f + send (M 4) t f + send (M 3) t f + send (M 2) t f + send (M 1) t f := by
  rw [out]
  rw [add1_at, add2_at, add43_at, add5_at, add6_at, add7_at, own_share c hc]

/-- The share of the device that holds a token's expert is the token's product; `q` is the expert's place among the device's four. -/
theorem share_home (e : ℕ → BitVec 32) (c : ℕ) (x : Vec Ideal S1024x256 .bf16) (w : Vec Ideal S4x256x512 .bf16) (t : Fin 1024) (f : Fin 512) (k : Fin 4)
    (he : e t.val = BitVec.ofNat 32 (4 * c + k.val)) (hc : c < 8) :
    share e c x w t f = if rank e t.val ≤ 25 then prod x w t k f else 0 := by
  split
  · rename_i hr
    have h1 : 1 ≤ rank e t.val := by rw [rank_eq]; omega
    have hs : 26 * k.val + (rank e t.val - 1) < 104 := by omega
    have hd : (26 * k.val + (rank e t.val - 1)) / 26 = k.val := by omega
    rw [share, Finset.sum_eq_single (⟨26 * k.val + (rank e t.val - 1), hs⟩ : Fin 104)]
    · rw [part, if_pos ⟨by rw [he, hd], hr, by show rank e t.val = (26 * k.val + (rank e t.val - 1)) % 26 + 1; omega⟩]
      exact congrArg (prod x w t · f) (Fin.ext hd)
    · intro s _ hne
      refine if_neg fun h => hne (Fin.ext ?_)
      have h2 := (ofNat_inj (by omega) (by omega)).1 (he.symm.trans h.1)
      have h3 := h.2.2
      show s.val = 26 * k.val + (rank e t.val - 1)
      omega
    · intro h; exact absurd (Finset.mem_univ _) h
  · rename_i hr
    exact Finset.sum_eq_zero fun s _ => if_neg fun h => hr h.2.1

/-- A device that does not hold the token's expert adds nothing. -/
theorem share_away (e : ℕ → BitVec 32) (c : ℕ) (x : Vec Ideal S1024x256 .bf16) (w : Vec Ideal S4x256x512 .bf16) (t : Fin 1024) (f : Fin 512)
    (he : ∀ k : Fin 4, e t.val ≠ BitVec.ofNat 32 (4 * c + k.val)) : share e c x w t f = 0 :=
  Finset.sum_eq_zero fun s _ => if_neg fun h => he ⟨s.val / 26, by omega⟩ h.1

end Cert.MoE

end
-- ==== Proof.RefValue.lean ====
/-
# What the reference computes

The reference counts the tokens of each expert with a running sum of the 0/1 choice table, keeps a token while fewer than 25 of its
expert came before it, and adds up, over the experts, the kept tokens' products. Read at one element this is a sum over the 32
experts of which at most one term, the chosen expert's, is not zero.
-/
module

public import proofs.«01_k».proof.Proof.Gen.ReferenceIdeal.Run
public import proofs.«01_k».proof.Proof.Count
public import Idealize.ShloMosaic.Lib.Routing.OpsOne

@[expose] public section

set_option maxRecDepth 16384

noncomputable section

namespace Cert.MoE.Ref

open Cert.ReferenceIdeal Cert.ReferenceIdeal.Gen
open Idealize.ShloMosaic

/-- The choice table: a one where the token chose the expert. -/
def choice (r : Vec Ideal S1024x1 .i32) : IVec S1024x32 32 :=
  extui 32 (cmpi .eq (broadcastInDim S1024x32 ![0, 1] bcast_S1024x1_S1024x32_0_1 r) (iotaInDim S1024x32 32 1)) natLt_1_32

/-- Its running sum down the tokens. -/
def running (r : Vec Ideal S1024x1 .i32) : IVec S1024x32 32 :=
  Host.reduceWindow IntOp.addi ![1024, 1] ![1, 1] ![1023, 0] ![0, 0] (choice r) (broadcastInDim S_ ![] bcast_S_S_ (constantI S_ 32 0#32))
    reduceWindows_S1024x32_S1024x32_w1024s1p1023_0_w1s1p0_0 h_S_

/-- Whether an expert keeps a token. -/
def keeps (r : Vec Ideal S1024x1 .i32) : IVec S1024x32 1 :=
  andi (cmpi .eq (choice r) (broadcastInDim S1024x32 ![] bcast_S_S1024x32 (constantI S_ 32 1#32)))
    (cmpi .slt (subi (running r) (choice r)) (broadcastInDim S1024x32 ![] bcast_S_S1024x32 (constantI S_ 32 25#32)))

/-- The reference's result. -/
def result (x : Vec Ideal S1024x256 .bf16) (r : Vec Ideal S1024x1 .i32) (w : Vec Ideal S32x256x512 .bf16) : FVec Ideal S1024x512 .f32 :=
  Host.reduceAdd
    (select
      (broadcastInDim S32x1024x512 ![0, 1, 2] bcast_S32x1024x1_S32x1024x512_0_1_2
        (broadcastInDim S32x1024x1 ![0, 1] bcast_S32x1024_S32x1024x1_0_1 (transpose S32x1024 [1, 0] (keeps r) transposes_S1024x32_S32x1024_1_0)))
      (transpose S32x1024x512 [0, 2, 1]
        (Host.dotGeneral dot_S32x256x512_S1024x256_S32x512x1024_1_1_02_0_n_n none (extf .f32 w bitsLt_bf16_f32) (extf .f32 x bitsLt_bf16_f32))
        transposes_S32x512x1024_S32x1024x512_0_2_1)
      (broadcastInDim S32x1024x512 ![] bcast_S_S32x1024x512 (id (constant S_ .f32 0x00000000#32))))
    (constant S_ .f32 0x00000000#32) reducesTo_S32x1024x512_S1024x512_d0 h_S_

/-- The expert token `t` chose. -/
def tok (r : Vec Ideal S1024x1 .i32) (t : ℕ) : BitVec 32 := if h : t < 1024 then r (ix2 ⟨t, h⟩ 0) else 0

theorem choice_at (r : Vec Ideal S1024x1 .i32) (t : Fin 1024) (j : Fin 32) :
    choice r (ix2 t j) = BitVec.ofNat 32 (if tok r t.val = BitVec.ofNat 32 j.val then 1 else 0) := by
  have h : choice r (ix2 t j) = BitVec.setWidth 32 (IntOp.cmpi .eq (r (ix2 t 0)) (BitVec.ofNat 32 j.val)) := by
    pointwise [choice]
  rw [h, cmp_eq, tok, dif_pos t.isLt]
  by_cases hc : r (ix2 t 0) = BitVec.ofNat 32 j.val
  · simp [hc]
  · simp [hc]

theorem sum_list (f : ℕ → ℕ) (n : ℕ) : ((List.range n).map f).sum = ∑ i ∈ Finset.range n, f i := by
  induction n with
  | zero => rfl
  | succ n ih => rw [List.range_succ, List.map_append, List.sum_append, ih, Finset.sum_range_succ]; simp

/-- The running sum counts the tokens up to and with this one that chose the expert. -/
theorem running_at (r : Vec Ideal S1024x1 .i32) (t : Fin 1024) (j : Fin 32) :
    running r (ix2 t j) = BitVec.ofNat 32 (upto (tok r) (BitVec.ofNat 32 j.val) (t.val + 1)) := by
  have h := Routing.cumsum_rows (R := 1024) (Rm1 := 1023) (C := 32) rfl (choice r) (fun i c => if tok r i = BitVec.ofNat 32 c then 1 else 0)
    (fun i c => by rw [← ix2_eq_valueIdx]; exact choice_at r i c)
    (broadcastInDim S_ ![] bcast_S_S_ (constantI S_ 32 0#32)) rfl reduceWindows_S1024x32_S1024x32_w1024s1p1023_0_w1s1p0_0 h_S_ t j
  rw [← ix2_eq_valueIdx, sum_list] at h
  exact h

/-- An expert keeps the tokens that chose it, up to rank 25. -/
theorem keeps_at (r : Vec Ideal S1024x1 .i32) (t : Fin 1024) (j : Fin 32) :
    keeps r (ix2 t j) = BitVec.ofBool (decide (tok r t.val = BitVec.ofNat 32 j.val ∧ rank (tok r) t.val ≤ 25)) := by
  have h : keeps r (ix2 t j) = IntOp.andi (IntOp.cmpi .eq (choice r (ix2 t j)) 1#32)
      (IntOp.cmpi .slt (IntOp.subi (running r (ix2 t j)) (choice r (ix2 t j))) 25#32) := by
    pointwise [keeps]
  rw [h, choice_at, running_at]
  by_cases hc : tok r t.val = BitVec.ofNat 32 j.val
  · have hsub : IntOp.subi (BitVec.ofNat 32 (upto (tok r) (BitVec.ofNat 32 j.val) (t.val + 1))) (BitVec.ofNat 32 1)
        = BitVec.ofNat 32 (upto (tok r) (BitVec.ofNat 32 j.val) t.val) := by
      rw [upto_succ, if_pos hc, BitVec.ofNat_add]
      exact BitVec.add_sub_cancel _ _
    have hle := upto_le (tok r) (BitVec.ofNat 32 j.val) t.val
    rw [if_pos hc, hsub, cmp_slt _ 25 (by omega) (by omega), cmp_eq, and_bool, rank_eq, hc]
    congr 1
    simp [Nat.lt_succ_iff]
  · rw [if_neg hc, cmp_eq]
    simp [hc]
    exact BitVec.zero_and

/-- Token `t`'s row times expert `j`'s weights. -/
def prod (x : Vec Ideal S1024x256 .bf16) (w : Vec Ideal S32x256x512 .bf16) (t : Fin 1024) (j : Fin 32) (f : Fin 512) : EReal :=
  ∑ d : Fin 256, (x (ix2 t d) : EReal) * w (ix3 j d f)

/-- The reference's result at one element. -/
theorem result_at (x : Vec Ideal S1024x256 .bf16) (r : Vec Ideal S1024x1 .i32) (w : Vec Ideal S32x256x512 .bf16) (t : Fin 1024) (f : Fin 512) :
    (result x r w (ix2 t f) : EReal)
      = ∑ j : Fin 32, if tok r t.val = BitVec.ofNat 32 j.val ∧ rank (tok r) t.val ≤ 25 then prod x w t j f else 0 := by
  have h : (result x r w (ix2 t f) : EReal) = ∑ j : Fin 32, Scalar.select (keeps r (ix2 t j)) (∑ d : Fin 256, (w (ix3 j d f) : EReal) * x (ix2 t d))
      (id (constant (F := Ideal) S_ FTy.f32 0#32) ix0) := by
    pointwise [result]
  have h0 : (id (constant (F := Ideal) S_ FTy.f32 0#32) ix0 : EReal) = 0 := by
    show (constant (F := Ideal) S_ FTy.f32 0#32 ix0 : EReal) = 0
    pointwise []
  rw [h, h0]
  refine Finset.sum_congr rfl fun j _ => ?_
  rw [keeps_at, prod]
  have hp : ∑ d : Fin 256, (w (ix3 j d f) : EReal) * x (ix2 t d) = ∑ d : Fin 256, (x (ix2 t d) : EReal) * w (ix3 j d f) :=
    Finset.sum_congr rfl fun d _ => mul_comm _ _
  rw [hp]
  by_cases hk : tok r t.val = BitVec.ofNat 32 j.val ∧ rank (tok r) t.val ≤ 25
  · rw [if_pos hk, decide_eq_true hk]; rfl
  · rw [if_neg hk, decide_eq_false hk]; rfl

end Cert.MoE.Ref

end
-- ==== Proof.Equation.lean ====
/-
# The kernel's result is the reference's

The eight devices' shares of a token's result are, together, the reference's sum over the 32 experts: device `c` holds the experts
`4 c` to `4 c + 3`. So every device ends with the reference's result.
-/
module

public import proofs.«01_k».proof.Defs
public import proofs.«01_k».proof.Proof.Launch
public import proofs.«01_k».proof.Proof.Scatter
public import proofs.«01_k».proof.Proof.RefValue

@[expose] public section

set_option maxRecDepth 16384

noncomputable section

namespace Cert.MoE

open Cert.KernelIdeal Cert.KernelIdeal.Gen
open Idealize.ShloMosaic Idealize.SL.Sem

/-- What expert `j` adds to token `t`'s result. -/
def term (x : Vec Ideal S1024x256 .bf16) (r : Vec Ideal S1024x1 .i32) (W : Vec Ideal Cert.ReferenceIdeal.S32x256x512 .bf16) (t : Fin 1024) (f : Fin 512)
    (j : Fin 32) : EReal :=
  if tok r t.val = BitVec.ofNat 32 j.val ∧ rank (tok r) t.val ≤ 25 then Ref.prod x W t j f else 0

/-- Expert `k` of device `c`'s four. -/
def expert (c : Fin 8) (k : Fin 4) : Fin 32 := ⟨4 * c.val + k.val, by omega⟩

/-- Block `c` of the experts' weights holds the device's four experts. -/
theorem block_weights (W : Vec Ideal Cert.ReferenceIdeal.S32x256x512 .bf16) (c : Fin 8) (k : Fin 4) (d : Fin 256) (f : Fin 512) :
    Layout.block ⟨3, ![4, 256, 512]⟩ ⟨3, ![32, 256, 512]⟩ 0 8 c W (by decide) (ix3 k d f) = W (ix3 (expert c k) d f) := by
  rw [Layout.block_apply]
  congr 1
  funext b
  refine Fin.ext ?_
  rw [Layout.Tiles.idx_val]
  fin_cases b
  · show c.val * 4 + k.val = 4 * c.val + k.val; omega
  · rfl
  · rfl

/-- A device's share is the sum of its four experts' terms. -/
theorem share_experts (x : Vec Ideal S1024x256 .bf16) (r : Vec Ideal S1024x1 .i32) (W : Vec Ideal Cert.ReferenceIdeal.S32x256x512 .bf16) (c : Fin 8)
    (w : Vec Ideal S4x256x512 .bf16) (hw : ∀ k d f, w (ix3 k d f) = W (ix3 (expert c k) d f)) (t : Fin 1024) (f : Fin 512) :
    share (tok r) c.val x w t f = ∑ k : Fin 4, term x r W t f (expert c k) := by
  have hp (k : Fin 4) : prod x w t k f = Ref.prod x W t (expert c k) f :=
    Finset.sum_congr rfl fun d _ => by rw [hw]
  by_cases he : ∃ k : Fin 4, tok r t.val = BitVec.ofNat 32 (4 * c.val + k.val)
  · obtain ⟨k, hk⟩ := he
    rw [share_home (tok r) c.val x w t f k hk c.isLt, Finset.sum_eq_single k]
    · rw [term, hp]
      by_cases hr : rank (tok r) t.val ≤ 25
      · rw [if_pos hr, if_pos ⟨hk, hr⟩]
      · rw [if_neg hr, if_neg fun h => hr h.2]
    · intro k' _ hne
      refine if_neg fun h => hne (Fin.ext ?_)
      have h2 := (ofNat_inj (by omega) (by omega)).1 (hk.symm.trans h.1)
      have h3 : (expert c k').val = 4 * c.val + k'.val := rfl
      omega
    · intro h; exact absurd (Finset.mem_univ k) h
  · have he' : ∀ k : Fin 4, tok r t.val ≠ BitVec.ofNat 32 (4 * c.val + k.val) := fun k hk => he ⟨k, hk⟩
    rw [share_away _ _ _ _ _ _ he']
    exact (Finset.sum_eq_zero fun k _ => if_neg fun h => he' k h.1).symm

/-- A sum over the experts, device by device. -/
theorem sum_experts (h : Fin 32 → EReal) : ∑ c : Fin 8, ∑ k : Fin 4, h (expert c k) = ∑ j : Fin 32, h j := by
  rw [← Fintype.sum_prod_type']
  refine Fintype.sum_equiv (finProdFinEquiv (m := 8) (n := 4)) _ h fun p => congrArg h (Fin.ext ?_)
  show 4 * p.1.val + p.2.val = p.2.val + 4 * p.1.val
  omega

/-- The sum over all devices, starting at device `c` and going round downwards. -/
theorem sum_peers (c : Dev nD) (h : Dev nD → EReal) :
    h c + h (peer c 7) + h (peer c 6) + h (peer c 5) + h (peer c 4) + h (peer c 3) + h (peer c 2) + h (peer c 1) = ∑ d : Fin 8, h d := by
  rw [← Equiv.sum_comp (Equiv.addLeft (c : Fin 8)) h, Fin.sum_univ_eight]
  show _ = h (peer c 0) + h (peer c 1) + h (peer c 2) + h (peer c 3) + h (peer c 4) + h (peer c 5) + h (peer c 6) + h (peer c 7)
  rw [show peer c 0 = c by revert c; decide]
  ac_rfl

theorem number_word (c : Dev nD) : vAt c = BitVec.ofNat 32 c.val := by revert c; decide

/-- From memories that hold the reference's arrays, device `c`'s result is the reference's. -/
theorem outAt_eq (m : (ℓ : Loc nD τ sig) → Buf (Elt Ideal) ℓ) (ρ : Dev nD → PrngReg) (x : Vec Ideal S1024x256 .bf16) (r : Vec Ideal S1024x1 .i32)
    (W : Vec Ideal Cert.ReferenceIdeal.S32x256x512 .bf16) (hx : ∀ c, xAt m ρ c = x) (hr : ∀ c, iAt m ρ c = r)
    (hw : ∀ (c : Dev nD) k d f, wtAt m ρ c (ix3 k d f) = W (ix3 (expert c k) d f)) (c : Dev nD) :
    outAt m ρ c = Ref.result x r W := by
  have hM (s : ℕ) (t : Fin 1024) (f : Fin 512) : send (slab (slotMsg m ρ c (Fin.ofNat 8 s))) t f = share (tok r) (peer c (Fin.ofNat 8 s)).val x (wtAt m ρ (peer c (Fin.ofNat 8 s))) t f := by
    rw [slotMsg, msgAt, number_word, hx, hr, send_msg _ (peer c (Fin.ofNat 8 s)).isLt]
  have hat (t : Fin 1024) (f : Fin 512) : (outAt m ρ c (ix2 t f) : EReal) = Ref.result x r W (ix2 t f) := by
    rw [outAt, gtAt, number_word, hx, hr, out_at c.val c.isLt, Ref.result_at]
    simp only [hM]
    refine (sum_peers c fun d => share (tok r) d.val x (wtAt m ρ d) t f).trans ?_
    rw [← sum_experts]
    exact Finset.sum_congr rfl fun d _ => share_experts x r W d _ (hw d) t f
  funext i
  have hi : i = ix2 (i 0) (i 1) := by funext a; fin_cases a <;> rfl
  rw [hi]
  exact hat (i 0) (i 1)

/-- The kernel, over the extended reals, computes the reference. -/
theorem equation : Cert.algebraic_KernelIdeal_ReferenceIdeal (hKernelIdeal := Cert.KernelIdeal.Gen.facts) (hReferenceIdeal := Cert.ReferenceIdeal.Gen.facts) := by
  intro m g m' g' _ hm
  refine ⟨Ref.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono (fun r h c => ⟨(h.1 c).1.trans ?_, (h.1 c).2⟩) (run_all (F := Ideal) m g)
    refine outAt_eq m g _ _ _ (fun c => (xAt_eq m g c).trans (hm c).1) (fun c => (iAt_eq m g c).trans (hm c).2.2.1) (fun c k d f => ?_) c
    rw [wtAt_eq m g c, (hm c).2.2.2]
    exact block_weights _ c k d f
  · exact (θ_run _ _ _).mono (fun r h => h 0) (Cert.ReferenceIdeal.Value.run (F := Ideal) m' g')

end Cert.MoE

end
-- ==== Proof.lean ====
/-
# The claims about the routed feed-forward kernel and its reference

The run of the kernel is stated once, over any kind of float (`Cert.MoE.run_all`); both frames of the kernel drop its values, and
`Cert.MoE.equation` compares them with the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The two prints of the kernel give one body. -/
theorem body_eq : Cert.Kernel.defs₀ (F := Bits) = Cert.KernelIdeal.defs₀ (F := Bits) := by
  unfold Cert.Kernel.defs₀ Cert.KernelIdeal.defs₀
  congr 1
  funext l a
  match l, a with
  | ⟨0, _⟩, (t, s) => rfl
  | ⟨_ + 1, h⟩, _ => exact absurd h (by omega)

/-- The two prints of the kernel give one table of calls. -/
theorem defs_eq : Cert.Kernel.defs (F := Bits) = Cert.KernelIdeal.defs (F := Bits) := by
  unfold Cert.Kernel.defs Cert.KernelIdeal.defs
  rw [body_eq]
  rfl

/-- The kernel's frame: the run over the machine's floats, its values dropped. -/
theorem frame_kernel : Cert.quiescent_Kernel := fun m ρ _ => by
  rw [defs_eq]
  exact Cert.MoE.run_frame (F := Bits) m ρ

/-- The idealization's frame: the same run over the extended reals. -/
theorem frame_ideal : Cert.quiescent_KernelIdeal := fun m ρ _ => Cert.MoE.run_frame (F := Ideal) m ρ

/-- The reference's frame: a straight line of operations, with no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Everything the certificate claims. -/
theorem claim : Cert.Claim := ⟨Cert.Kernel.Gen.facts, Cert.KernelIdeal.Gen.facts, Cert.ReferenceIdeal.Gen.facts, frame_kernel, frame_ideal, frame_reference, trivial, Cert.MoE.equation⟩

end Cert.Proof

end
